-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bits_and_finite [hPre_bits_and_finite : Cert.Pre_bits_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bits_and_finite [hPre_bits_and_finite : Cert.Pre_bits_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bits_and_finite [hKernelIdeal : Cert.KernelIdeal.Facts] [hPre_bits_and_finite : Cert.Pre_bits_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bits_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bits_and_finite [hReferenceIdeal : Cert.ReferenceIdeal.Facts] [hPre_bits_and_finite : Cert.Pre_bits_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bits_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bits_and_finite [hKernelIdeal : Cert.KernelIdeal.Facts] [hReferenceIdeal : Cert.ReferenceIdeal.Facts] [hPre_bits_and_finite : Cert.Pre_bits_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bits_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bits_and_finite : Cert.Pre_bits_and_finite.Facts),
    quiescent_Kernel (hKernel := hKernel)
    ∧ quiescent_KernelIdeal (hKernelIdeal := hKernelIdeal)
    ∧ quiescent_KernelIdeal_pre_bits_and_finite (hKernelIdeal := hKernelIdeal) (hPre_bits_and_finite := hPre_bits_and_finite)
    ∧ quiescent_ReferenceIdeal (hReferenceIdeal := hReferenceIdeal)
    ∧ quiescent_ReferenceIdeal_pre_bits_and_finite (hReferenceIdeal := hReferenceIdeal) (hPre_bits_and_finite := hPre_bits_and_finite)
    ∧ preserves_Kernel_KernelIdeal
    ∧ algebraic_KernelIdeal_ReferenceIdeal_pre_bits_and_finite (hKernelIdeal := hKernelIdeal) (hReferenceIdeal := hReferenceIdeal) (hPre_bits_and_finite := hPre_bits_and_finite)
-- ==== Pre_bits_and_finite.lean ====
abbrev S16384x32 : Shape := ⟨2, ![16384, 32]⟩
abbrev S5488 : Shape := ⟨1, ![5488]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S5488 : S_.BroadcastsInDim S5488 (![] : Fin 0 → Fin S5488.rank)
  reducesTo_S5488_S_d0 : S5488.ReducesTo [0] S_

variable [Facts]

def fn {F : FTy → Type} [FloatOps F] (main_arg0 : IVec S16384x32 32) (main_arg1 : FVec F S5488 .f32) : IVec S_ 1 :=
  let main_c : IVec S_ 32 := constantI S_ 32 0#32
  let main_v0 : IVec S16384x32 32 := broadcastInDim S16384x32 ![] bcast_S_S16384x32 main_c
  let main_v1 : IVec S16384x32 1 := cmpi .eq main_arg0 main_v0
  let main_c_0 : IVec S_ 32 := constantI S_ 32 1#32
  let main_v2 : IVec S16384x32 32 := broadcastInDim S16384x32 ![] bcast_S_S16384x32 main_c_0
  let main_v3 : IVec S16384x32 1 := cmpi .eq main_arg0 main_v2
  let main_v4 : IVec S16384x32 1 := ori main_v1 main_v3
  let main_c_1 : IVec S_ 1 := constantI S_ 1 1#1
  let main_v5 : IVec S_ 1 := (fun x v => Host.reduce IntOp.andi x v reducesTo_S16384x32_S_d0_1 h_S_) main_v4 main_c_1
  let main_v6 : FVec F S5488 .f32 := Host.absf main_arg1
  let main_cst : FVec F S_ .f32 := constant S_ .f32 0x7F800000#32
  let main_v7 : FVec F S5488 .f32 := broadcastInDim S5488 ![] bcast_S_S5488 main_cst
  let main_v8 : IVec S5488 1 := cmpf .olt main_v6 main_v7
  let main_c_2 : IVec S_ 1 := constantI S_ 1 1#1
  let main_v9 : IVec S_ 1 := (fun x v => Host.reduce IntOp.andi x v reducesTo_S5488_S_d0 h_S_) main_v8 main_c_2
  let main_v10 : IVec S_ 1 := andi main_v5 main_v9
  main_v10
-- ==== Kernel.lean ====
abbrev S16384x32 : Shape := ⟨2, ![16384, 32]⟩
abbrev S5488 : Shape := ⟨1, ![5488]⟩
abbrev S4960 : Shape := ⟨1, ![4960]⟩
abbrev S32 : Shape := ⟨1, ![32]⟩
abbrev S32x640 : Shape := ⟨2, ![32, 640]⟩
abbrev S496 : Shape := ⟨1, ![496]⟩
abbrev S_ : Shape := ⟨0, ![]⟩
abbrev S4960x1 : Shape := ⟨2, ![4960, 1]⟩
abbrev S4960x2 : Shape := ⟨2, ![4960, 2]⟩
abbrev S32x1 : Shape := ⟨2, ![32, 1]⟩
abbrev S32x2 : Shape := ⟨2, ![32, 2]⟩
abbrev S1x640 : Shape := ⟨2, ![1, 640]⟩
abbrev S1 : Shape := ⟨1, ![1]⟩
abbrev S2 : Shape := ⟨1, ![2]⟩
abbrev S32x1920 : Shape := ⟨2, ![32, 1920]⟩
abbrev S16384x1 : Shape := ⟨2, ![16384, 1]⟩
abbrev S2048x32 : Shape := ⟨2, ![2048, 32]⟩
abbrev S2048x1 : Shape := ⟨2, ![2048, 1]⟩
abbrev S2048x1920 : Shape := ⟨2, ![2048, 1920]⟩
abbrev S2048x640 : Shape := ⟨2, ![2048, 640]⟩
abbrev S2048 : Shape := ⟨1, ![2048]⟩

abbrev nBuf : Space → Nat
  | .hbm => 51
  | .vmem => 6
  | .smem => 0
  | _ => 0

abbrev bufTy : (tb : Table) → Fin (tcTables nBuf tb) → BufTy
  | .hbm, ⟨0, _⟩ => ⟨S16384x32, .i32⟩
  | .hbm, ⟨1, _⟩ => ⟨S5488, .f32⟩
  | .hbm, ⟨2, _⟩ => ⟨S4960, .i32⟩
  | .hbm, ⟨3, _⟩ => ⟨S4960, .i1⟩
  | .hbm, ⟨4, _⟩ => ⟨S4960, .i32⟩
  | .hbm, ⟨5, _⟩ => ⟨S4960, .i1⟩
  | .hbm, ⟨6, _⟩ => ⟨S32, .i32⟩
  | .hbm, ⟨7, _⟩ => ⟨S32, .i1⟩
  | .hbm, ⟨8, _⟩ => ⟨S32, .i32⟩
  | .hbm, ⟨9, _⟩ => ⟨S32, .i1⟩
  | .hbm, ⟨10, _⟩ => ⟨S32x640, .f32⟩
  | .hbm, ⟨11, _⟩ => ⟨S32x640, .f32⟩
  | .hbm, ⟨12, _⟩ => ⟨S32, .f32⟩
  | .hbm, ⟨13, _⟩ => ⟨S496, .f32⟩
  | .hbm, ⟨14, _⟩ => ⟨S4960, .f32⟩
  | .hbm, ⟨15, _⟩ => ⟨S_, .f32⟩
  | .hbm, ⟨16, _⟩ => ⟨S32x640, .f32⟩
  | .hbm, ⟨17, _⟩ => ⟨S_, .i32⟩
  | .hbm, ⟨18, _⟩ => ⟨S4960, .i32⟩
  | .hbm, ⟨19, _⟩ => ⟨S4960, .i32⟩
  | .hbm, ⟨20, _⟩ => ⟨S4960, .i32⟩
  | .hbm, ⟨21, _⟩ => ⟨S_, .i32⟩
  | .hbm, ⟨22, _⟩ => ⟨S4960, .i32⟩
  | .hbm, ⟨23, _⟩ => ⟨S4960, .i32⟩
  | .hbm, ⟨24, _⟩ => ⟨S4960, .i32⟩
  | .hbm, ⟨25, _⟩ => ⟨S4960x1, .i32⟩
  | .hbm, ⟨26, _⟩ => ⟨S4960x1, .i32⟩
  | .hbm, ⟨27, _⟩ => ⟨S4960x2, .i32⟩
  | .hbm, ⟨28, _⟩ => ⟨S32x640, .f32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S32x1, .i32⟩
  | .hbm, ⟨38, _⟩ => ⟨S32x1, .i32⟩
  | .hbm, ⟨39, _⟩ => ⟨S32x2, .i32⟩
  | .hbm, ⟨40, _⟩ => ⟨S32x640, .f32⟩
  | .hbm, ⟨41, _⟩ => ⟨S_, .f32⟩
  | .hbm, ⟨42, _⟩ => ⟨S1x640, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S1x640, .f32⟩
  | .hbm, ⟨49, _⟩ => ⟨S32x1920, .f32⟩
  | .hbm, ⟨50, _⟩ => ⟨S16384x1, .f32⟩
  | .local _ .vmem, ⟨0, _⟩ => ⟨S2048x32, .i32⟩
  | .local _ .vmem, ⟨1, _⟩ => ⟨S2048x32, .i32⟩
  | .local _ .vmem, ⟨2, _⟩ => ⟨S32x1920, .f32⟩
  | .local _ .vmem, ⟨3, _⟩ => ⟨S1x640, .f32⟩
  | .local _ .vmem, ⟨4, _⟩ => ⟨S2048x1, .f32⟩
  | .local _ .vmem, ⟨5, _⟩ => ⟨S2048x1, .f32⟩
  | _, _ => ⟨S16384x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_cst : Ref sig .tc := ⟨.hbm, 10, rfl⟩
abbrev main_cst_7 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_8 : Ref sig .tc := ⟨.hbm, 15, rfl⟩
abbrev main_v3 : Ref sig .tc := ⟨.hbm, 16, rfl⟩
abbrev main_c_9 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_10 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_11 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_12 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_13 : Ref sig .tc := ⟨.hbm, 41, rfl⟩
abbrev main_v24 : Ref sig .tc := ⟨.hbm, 42, rfl⟩
abbrev main_c_14 : Ref sig .tc := ⟨.hbm, 43, rfl⟩
abbrev main_v25 : Ref sig .tc := ⟨.hbm, 44, rfl⟩
abbrev main_c_15 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x32 : Shape := ⟨2, ![16384, 32]⟩
abbrev S5488 : Shape := ⟨1, ![5488]⟩
abbrev S32x1 : Shape := ⟨2, ![32, 1]⟩
abbrev S496x2 : Shape := ⟨2, ![496, 2]⟩
abbrev S4960x3 : Shape := ⟨2, ![4960, 3]⟩
abbrev S_ : Shape := ⟨0, ![]⟩
abbrev S32x1x1 : Shape := ⟨3, ![32, 1, 1]⟩
abbrev S16384x32x1 : Shape := ⟨3, ![16384, 32, 1]⟩
abbrev S496x2x1 : Shape := ⟨3, ![496, 2, 1]⟩
abbrev S16384x496x2 : Shape := ⟨3, ![16384, 496, 2]⟩
abbrev S16384x496x1 : Shape := ⟨3, ![16384, 496, 1]⟩
abbrev S16384x496 : Shape := ⟨2, ![16384, 496]⟩
abbrev S4960x3x1 : Shape := ⟨3, ![4960, 3, 1]⟩
abbrev S16384x4960x3 : Shape := ⟨3, ![16384, 4960, 3]⟩
abbrev S16384x4960x1 : Shape := ⟨3, ![16384, 4960, 1]⟩
abbrev S16384x4960 : Shape := ⟨2, ![16384, 4960]⟩
abbrev S16384x5488 : Shape := ⟨2, ![16384, 5488]⟩
abbrev S16384 : Shape := ⟨1, ![16384]⟩
abbrev S16384x1 : Shape := ⟨2, ![16384, 1]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .i32⟩
  | .hbm, ⟨1, _⟩ => ⟨S5488, .f32⟩
  | .hbm, ⟨2, _⟩ => ⟨S32x1, .i32⟩
  | .hbm, ⟨3, _⟩ => ⟨S32x1, .i1⟩
  | .hbm, ⟨4, _⟩ => ⟨S496x2, .i32⟩
  | .hbm, ⟨5, _⟩ => ⟨S496x2, .i1⟩
  | .hbm, ⟨6, _⟩ => ⟨S4960x3, .i32⟩
  | .hbm, ⟨7, _⟩ => ⟨S4960x3, .i1⟩
  | .hbm, ⟨8, _⟩ => ⟨S_, .i32⟩
  | .hbm, ⟨9, _⟩ => ⟨S16384x32, .i32⟩
  | .hbm, ⟨10, _⟩ => ⟨S16384x32, .i32⟩
  | .hbm, ⟨11, _⟩ => ⟨S_, .i32⟩
  | .hbm, ⟨12, _⟩ => ⟨S16384x32, .i32⟩
  | .hbm, ⟨13, _⟩ => ⟨S16384x32, .i32⟩
  | .hbm, ⟨14, _⟩ => ⟨S16384x32, .f32⟩
  | .hbm, ⟨15, _⟩ => ⟨S_, .i32⟩
  | .hbm, ⟨16, _⟩ => ⟨S32x1, .i32⟩
  | .hbm, ⟨17, _⟩ => ⟨S32x1, .i32⟩
  | .hbm, ⟨18, _⟩ => ⟨S32x1, .i32⟩
  | .hbm, ⟨19, _⟩ => ⟨S32x1x1, .i32⟩
  | .hbm, ⟨20, _⟩ => ⟨S16384x32x1, .f32⟩
  | .hbm, ⟨21, _⟩ => ⟨S16384x32, .f32⟩
  | .hbm, ⟨22, _⟩ => ⟨S_, .i32⟩
  | .hbm, ⟨23, _⟩ => ⟨S496x2, .i32⟩
  | .hbm, ⟨24, _⟩ => ⟨S496x2, .i32⟩
  | .hbm, ⟨25, _⟩ => ⟨S496x2, .i32⟩
  | .hbm, ⟨26, _⟩ => ⟨S496x2x1, .i32⟩
  | .hbm, ⟨27, _⟩ => ⟨S16384x496x2, .f32⟩
  | .hbm, ⟨28, _⟩ => ⟨S16384x496x1, .f32⟩
  | .hbm, ⟨29, _⟩ => ⟨S16384x496, .f32⟩
  | .hbm, ⟨30, _⟩ => ⟨S16384x496x1, .f32⟩
  | .hbm, ⟨31, _⟩ => ⟨S16384x496, .f32⟩
  | .hbm, ⟨32, _⟩ => ⟨S16384x496, .f32⟩
  | .hbm, ⟨33, _⟩ => ⟨S_, .i32⟩
  | .hbm, ⟨34, _⟩ => ⟨S4960x3, .i32⟩
  | .hbm, ⟨35, _⟩ => ⟨S4960x3, .i32⟩
  | .hbm, ⟨36, _⟩ => ⟨S4960x3, .i32⟩
  | .hbm, ⟨37, _⟩ => ⟨S4960x3x1, .i32⟩
  | .hbm, ⟨38, _⟩ => ⟨S16384x4960x3, .f32⟩
  | .hbm, ⟨39, _⟩ => ⟨S16384x4960x1, .f32⟩
  | .hbm, ⟨40, _⟩ => ⟨S16384x4960, .f32⟩
  | .hbm, ⟨41, _⟩ => ⟨S16384x4960x1, .f32⟩
  | .hbm, ⟨42, _⟩ => ⟨S16384x4960, .f32⟩
  | .hbm, ⟨43, _⟩ => ⟨S16384x4960, .f32⟩
  | .hbm, ⟨44, _⟩ => ⟨S16384x4960x1, .f32⟩
  | .hbm, ⟨45, _⟩ => ⟨S16384x4960, .f32⟩
  | .hbm, ⟨46, _⟩ => ⟨S16384x4960, .f32⟩
  | .hbm, ⟨47, _⟩ => ⟨S16384x5488, .f32⟩
  | .hbm, ⟨48, _⟩ => ⟨S16384, .f32⟩
  | .hbm, ⟨49, _⟩ => ⟨S16384x1, .f32⟩
  | _, _ => ⟨S16384x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_v0 : Ref sig .tc := ⟨.hbm, 9, rfl⟩
abbrev main_v1 : Ref sig .tc := ⟨.hbm, 10, rfl⟩
abbrev main_c_6 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_7 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_8 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_9 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Entry.lean ====
module

public import proofs.«01_k».proof.Proof.Gen.KernelIdeal.Frame

@[expose] public section

/-!
# What the kernel's launch reads

Before the launch the program builds, from the weights, the matrix that multiplies the spins and the row of offsets: the
weights of the triples and of the single bits are written into a matrix of zeros, this matrix is set beside the two matrices of
zeros and ones, and the weights of the pairs are written into a row of zeros.
-/

noncomputable section

namespace Cert.Energy

open Idealize.ShloMosaic Idealize.ShloMosaic.TcCoe Idealize.ShloMosaic.StableHlo Idealize.SL.Sem Cert.KernelIdeal Cert.KernelIdeal.Gen

variable {F : FTy → Type} [FloatOps F]

/-- Two columns of 4960 words side by side. -/
def tripleColumns {α : Type} (a b : S4960x1.Idx → α) : S4960x2.Idx → α :=
  concatenate S4960x2 1 [⟨S4960x1, a⟩, ⟨S4960x1, b⟩] concatenates_S4960x1_S4960x1_S4960x2_d1

/-- Two columns of 32 words side by side. -/
def singleColumns {α : Type} (a b : S32x1.Idx → α) : S32x2.Idx → α :=
  concatenate S32x2 1 [⟨S32x1, a⟩, ⟨S32x1, b⟩] concatenates_S32x1_S32x1_S32x2_d1

/-- Two words as a row. -/
def twoWords {α : Type} (a b : S1.Idx → α) : S2.Idx → α := concatenate S2 0 [⟨S1, a⟩, ⟨S1, b⟩] concatenates_S1_S1_S2_d0

/-- Three matrices side by side. -/
def sideBySide {α : Type} (a b d : S32x640.Idx → α) : S32x1920.Idx → α :=
  concatenate S32x1920 1 [⟨S32x640, a⟩, ⟨S32x640, b⟩, ⟨S32x640, d⟩] concatenates_S32x640_S32x640_S32x640_S32x1920_d1

/-- The places of the triples' weights, a row and a column for each. -/
def triplePlaces : IVec S4960x2 32 :=
  tripleColumns
    (broadcastInDim S4960x1 ![0] bcast_S4960_S4960x1_0 (select (constantI S4960 1 0#1)
        (addi (fun i => lit0 (S4960.rowMajor i)) (broadcastInDim S4960 ![] bcast_S_S4960 (constantI S_ 32 32#32)))
        (fun i => lit0 (S4960.rowMajor i))))
    (broadcastInDim S4960x1 ![0] bcast_S4960_S4960x1_0 (select (constantI S4960 1 0#1)
        (addi (fun i => lit1 (S4960.rowMajor i)) (broadcastInDim S4960 ![] bcast_S_S4960 (constantI S_ 32 640#32)))
        (fun i => lit1 (S4960.rowMajor i))))

/-- The places of the single bits' weights. -/
def singlePlaces : IVec S32x2 32 :=
  singleColumns
    (broadcastInDim S32x1 ![0] bcast_S32_S32x1_0 (select (constantI S32 1 0#1)
        (addi (fun i => lit2 (S32.rowMajor i)) (broadcastInDim S32 ![] bcast_S_S32 (constantI S_ 32 32#32)))
        (fun i => lit2 (S32.rowMajor i))))
    (broadcastInDim S32x1 ![0] bcast_S32_S32x1_0 (select (constantI S32 1 0#1)
        (addi (fun i => lit3 (S32.rowMajor i)) (broadcastInDim S32 ![] bcast_S_S32 (constantI S_ 32 640#32)))
        (fun i => lit3 (S32.rowMajor i))))

/-- The matrix of zeros with the triples' weights written in. -/
def tripleMatrix (w : FVec F S5488 .f32) : FVec F S32x640 .f32 :=
  Host.scatter scatter_S32x640_S4960x2_S4960_n_01_01_1 (fun _ b => b)
    (broadcastInDim S32x640 ![] bcast_S_S32x640 (constant S_ .f32 0x00000000#32)) triplePlaces
    (extractStridedSlice S4960 ![528] w slices_S5488_S4960_528)

/-- The same with the single bits' weights written in as well. -/
def weightMatrix (w : FVec F S5488 .f32) : FVec F S32x640 .f32 :=
  Host.scatter scatter_S32x640_S32x2_S32_n_01_01_1 (fun _ b => b) (tripleMatrix w) singlePlaces
    (extractStridedSlice S32 ![0] w slices_S5488_S32_0)

/-- The first matrix of zeros and ones. -/
def firstMatrix : FVec F S32x640 .f32 := fun i => FloatOps.ofBits .f32 (lit4 (S32x640.rowMajor i))

/-- The second matrix of zeros and ones. -/
def secondMatrix : FVec F S32x640 .f32 := fun i => FloatOps.ofBits .f32 (lit5 (S32x640.rowMajor i))

/-- The matrix that multiplies the spins: the three matrices side by side. -/
def combined (w : FVec F S5488 .f32) : FVec F S32x1920 .f32 := sideBySide firstMatrix secondMatrix (weightMatrix w)

/-- Where the pairs' weights start in the row of offsets. -/
def pairPlace : IVec S2 32 :=
  twoWords (broadcastInDim S1 ![] bcast_S_S1 (constantI S_ 32 0#32)) (broadcastInDim S1 ![] bcast_S_S1 (constantI S_ 32 0#32))

/-- The row of offsets: zeros with the pairs' weights written in. -/
def offsets (w : FVec F S5488 .f32) : FVec F S1x640 .f32 :=
  Host.scatter scatter_S1x640_S2_S496_0_0_01_0 (fun _ b => b)
    (broadcastInDim S1x640 ![] bcast_S_S1x640 (constant S_ .f32 0x00000000#32)) pairPlace
    (extractStridedSlice S496 ![32] w slices_S5488_S496_32)

/-- Two columns of 4960 words side by side, by name. -/
theorem tripleColumns_eq {α : Type} (a b : S4960x1.Idx → α) (h) :
    concatenate S4960x2 1 [⟨S4960x1, a⟩, ⟨S4960x1, b⟩] h = tripleColumns a b := rfl

/-- Two columns of 32 words side by side, by name. -/
theorem singleColumns_eq {α : Type} (a b : S32x1.Idx → α) (h) :
    concatenate S32x2 1 [⟨S32x1, a⟩, ⟨S32x1, b⟩] h = singleColumns a b := rfl

/-- Two words as a row, by name. -/
theorem twoWords_eq {α : Type} (a b : S1.Idx → α) (h) : concatenate S2 0 [⟨S1, a⟩, ⟨S1, b⟩] h = twoWords a b := rfl

/-- Three matrices side by side, by name. -/
theorem sideBySide_eq {α : Type} (a b d : S32x640.Idx → α) (h) :
    concatenate S32x1920 1 [⟨S32x640, a⟩, ⟨S32x640, b⟩, ⟨S32x640, d⟩] h = sideBySide a b d := rfl

variable (m : (ℓ : Loc nD τ sig) → Buf (Elt F) ℓ)

set_option maxRecDepth 8192 in
set_option maxHeartbeats 2000000 in
/-- At the launch the second operand holds the combined matrix of the weights. -/
theorem entry_combined (c : Dev nD) : V m c main_v29 = combined (F := F) (m ((c : Thread nD τ).loc main_arg1)) := by
  show StableHlo.after hostOps0 (fun b => m (c, b)) (Proc.devRef .tc main_v29) = _
  simp only [hostOps0]
  after_results_simp
  refine (sideBySide_eq (α := F .f32) _ _ _ _).trans ?_
  dsimp only [Matrix.cons_val]
  after_results_simp
  simp only [tripleColumns_eq, singleColumns_eq]
  after_results_simp
  rfl

set_option maxRecDepth 8192 in
set_option maxHeartbeats 2000000 in
/-- At the launch the third operand holds the row of offsets. -/
theorem entry_offsets (c : Dev nD) : V m c main_v28 = offsets (F := F) (m ((c : Thread nD τ).loc main_arg1)) := by
  show StableHlo.after hostOps0 (fun b => m (c, b)) (Proc.devRef .tc main_v28) = _
  simp only [hostOps0]
  after_results_simp
  simp only [twoWords_eq]
  after_results_simp
  rfl

end Cert.Energy
-- ==== Proof.Writes.lean ====
module

public import Idealize.ShloMosaic.Lib.Routing.OpsSet
public import Idealize.ShloMosaic.Lib.ValueIdx

@[expose] public section

/-!
# Where the updates of a scatter land

A table of `N` pairs of words tells where `N` values go in a matrix: value `n` lands at the row and the column
that its two words name. A row of values can also be written as a window whose start two words give; with the
two words zero, value `p` lands at column `p` of row zero.
-/

namespace Cert.Energy

open Idealize.ShloMosaic Idealize.ShloMosaic.ValueIdx Idealize.ShloMosaic.Routing

/-- The scatter of `N` scalars into a matrix by a table of `N` pairs of words. -/
abbrev pointWrites (R C N : Nat)
    (wf : ScatterDims.WF (shape2 R C) (shape2 N 2) (shape1 N) [] [0, 1] [0, 1] 1) :
    ScatterDims (shape2 R C) (shape2 N 2) (shape1 N) where
  updateWindowDims := []
  insertedWindowDims := [0, 1]
  scatterDimsToOperandDims := [0, 1]
  indexVectorDim := 1
  wf := wf

/-- Value `n` lands at row `r` and column `c` exactly when its two words, read signed, are `r` and `c`. -/
theorem point_lands {R C N w : Nat} (wf : ScatterDims.WF (shape2 R C) (shape2 N 2) (shape1 N) [] [0, 1] [0, 1] 1)
    (idx : IVec (shape2 N 2) w) (n : Fin N) (r : Fin R) (c : Fin C) :
    (pointWrites R C N wf).resultIdx? (ix1 n) idx = some (ix2 r c)
      ↔ (idx (ix2 n 0)).toInt = r.val ∧ (idx (ix2 n 1)).toInt = c.val := by
  have window_zero : ∀ a : Fin 2, (pointWrites R C N wf).window (ix1 n) a = 0 := fun a => by
    have hm : a ∈ ([0, 1] : List (Fin 2)) := by fin_cases a <;> simp
    have hk : ¬ a ∈ (pointWrites R C N wf).sKept := fun h => absurd hm (of_decide_eq_true (List.mem_filter.1 h).2)
    exact dif_neg hk
  have start_word : ∀ a : Fin 2, (pointWrites R C N wf).start (ix1 n) idx a = (idx (ix2 n a)).toInt := fun a => by
    have ha : a ∈ (pointWrites R C N wf).scatterDimsToOperandDims := by
      show a ∈ ([0, 1] : List (Fin 2))
      fin_cases a <;> simp
    unfold ScatterDims.start
    rw [dif_pos ha]
    refine congrArg (fun k => (idx k).toInt) (funext fun b => Fin.ext ?_)
    match b with
    | ⟨0, _⟩ => rfl
    | ⟨1, _⟩ => fin_cases a <;> rfl
  rw [resultIdx?_ix2, window_zero, window_zero, start_word, start_word]
  simp only [Nat.cast_zero, add_zero]

/-- The scatter of a row of `N` scalars into a matrix of one row, at the place two words give. -/
abbrev rowWrite (C N : Nat) (wf : ScatterDims.WF (shape2 1 C) (shape1 2) (shape1 N) [0] [0] [0, 1] 0) :
    ScatterDims (shape2 1 C) (shape1 2) (shape1 N) where
  updateWindowDims := [0]
  insertedWindowDims := [0]
  scatterDimsToOperandDims := [0, 1]
  indexVectorDim := 0
  wf := wf

/-- With both words zero, value `n` lands at column `c` exactly when `n` is `c`. -/
theorem row_lands {C N w : Nat} (wf : ScatterDims.WF (shape2 1 C) (shape1 2) (shape1 N) [0] [0] [0, 1] 0)
    (idx : IVec (shape1 2) w) (hz : ∀ k, idx k = 0) (n : Fin N) (c : Fin C) :
    (rowWrite C N wf).resultIdx? (ix1 n) idx = some (ix2 0 c) ↔ n.val = c.val := by
  have start_zero : ∀ a : Fin 2, (rowWrite C N wf).start (ix1 n) idx a = 0 := fun a => by
    unfold ScatterDims.start
    split
    · rw [hz]
      exact BitVec.toInt_zero
    · rfl
  have h0 : (rowWrite C N wf).window (ix1 n) (0 : Fin 2) = 0 := rfl
  have h1 : (rowWrite C N wf).window (ix1 n) (1 : Fin 2) = n.val := rfl
  rw [resultIdx?_ix2, h0, h1, start_zero, start_zero]
  simp

end Cert.Energy
-- ==== Proof.Words.lean ====
module

public import proofs.«01_k».proof.KernelIdeal
public import proofs.«01_k».proof.ReferenceIdeal

@[expose] public section

/-!
# The index tables of the two programs

The reference lists the pairs and the triples of bits in two tables of bit numbers. The kernel stores, for
each triple, the row and the column at which its weight goes, and two matrices of zeros and ones that choose,
for every column, the two bits whose spins multiply. This module reads the tables as functions of numbers and
says how a statement about all numbers below a bound is computed.
-/

namespace Cert.Energy

/-- The first bit of pair `p`, as the reference lists it. -/
noncomputable def pairA (p : Nat) : Nat := (Cert.ReferenceIdeal.lit1t (p * 2)).toNat

/-- The second bit of pair `p`. -/
noncomputable def pairB (p : Nat) : Nat := (Cert.ReferenceIdeal.lit1t (p * 2 + 1)).toNat

/-- Bit number `c` of triple `t`, as the reference lists it. -/
noncomputable def triple (t c : Nat) : Nat := (Cert.ReferenceIdeal.lit2t (t * 3 + c)).toNat

/-- The row at which the kernel puts the weight of triple `t`. -/
noncomputable def row (t : Nat) : Nat := (Cert.KernelIdeal.lit0t t).toNat

/-- The column at which the kernel puts the weight of triple `t`. -/
noncomputable def col (t : Nat) : Nat := (Cert.KernelIdeal.lit1t t).toNat

/-- The check `f` comes out true at every number below `n`. -/
def allBelow (f : Nat → Bool) : Nat → Bool
  | 0 => true
  | n + 1 => f n && allBelow f n

/-- So a check that has been computed holds at each of those numbers. -/
theorem of_allBelow (f : Nat → Bool) : ∀ n, allBelow f n = true → ∀ i < n, f i = true
  | 0, _, _, hi => absurd hi (Nat.not_lt_zero _)
  | n + 1, h, i, hi => by
    have h' := Bool.and_eq_true_iff.1 h
    rcases Nat.lt_succ_iff_lt_or_eq.1 hi with hlt | rfl
    · exact of_allBelow f n h'.2 i hlt
    · exact h'.1

end Cert.Energy
-- ==== Proof.Triples.lean ====
module

public import proofs.«01_k».proof.Proof.Words

@[expose] public section

/-!
# The triples' table and the places of their weights

Every comparison is finite and is computed by the kernel of Lean.
-/

namespace Cert.Energy

/-- Both bits of a pair are among the 32. -/
theorem pair_lt (p : Nat) (hp : p < 496) : pairA p < 32 ∧ pairB p < 32 :=
  of_decide_eq_true (of_allBelow (fun p => decide (pairA p < 32 ∧ pairB p < 32)) 496 (by decide +kernel) p hp)

/-- Each triple's weight goes to the row of its first bit and to the column of the pair of its other two. -/
theorem triple_place (t : Nat) (ht : t < 4960) :
    row t < 32 ∧ col t < 496 ∧ triple t 0 = row t ∧ triple t 1 = pairA (col t) ∧ triple t 2 = pairB (col t) :=
  of_decide_eq_true (of_allBelow (fun t => decide (row t < 32 ∧ col t < 496 ∧ triple t 0 = row t
    ∧ triple t 1 = pairA (col t) ∧ triple t 2 = pairB (col t))) 4960 (by decide +kernel) t ht)

/-- The places of the triples' weights come in increasing order. -/
theorem place_step (t : Nat) (ht : t < 4959) : row t * 640 + col t < row (t + 1) * 640 + col (t + 1) :=
  of_decide_eq_true (of_allBelow (fun t => decide (row t * 640 + col t < row (t + 1) * 640 + col (t + 1))) 4959
    (by decide +kernel) t ht)

/-- The rows of the single bits' weights are the bits in order. -/
theorem single_row : ∀ q : Fin 32, Cert.KernelIdeal.lit2 q = BitVec.ofNat 32 q.val := by decide +kernel

/-- Their columns are the 32 after the pairs. -/
theorem single_col : ∀ q : Fin 32, Cert.KernelIdeal.lit3 q = BitVec.ofNat 32 (496 + q.val) := by decide +kernel

/-- The reference lists the single bits in order. -/
theorem single_bit : ∀ q : Fin 32, Cert.ReferenceIdeal.lit0 q = BitVec.ofNat 32 q.val := by decide +kernel

/-- A function that increases at each step below `n` increases between any two numbers up to `n`. -/
theorem lt_of_steps (f : Nat → Nat) (n : Nat) (h : ∀ t < n, f t < f (t + 1)) (a : Nat) : ∀ b, a < b → b ≤ n → f a < f b
  | 0, hab, _ => absurd hab (Nat.not_lt_zero _)
  | b + 1, hab, hb => by
    rcases Nat.lt_succ_iff_lt_or_eq.1 hab with hlt | rfl
    · exact (lt_of_steps f n h a b hlt (by omega)).trans (h b (by omega))
    · exact h a (by omega)

/-- Two triples whose weights go to the same place are the same. -/
theorem place_inj (t u : Nat) (ht : t < 4960) (hu : u < 4960) (hr : row t = row u) (hc : col t = col u) : t = u := by
  have mono := lt_of_steps (fun t => row t * 640 + col t) 4959 place_step
  rcases Nat.lt_trichotomy t u with h | h | h
  · have := mono t u h (by omega)
    simp only [hr, hc] at this
    omega
  · exact h
  · have := mono u t h (by omega)
    simp only [hr, hc] at this
    omega

end Cert.Energy
-- ==== Proof.First.lean ====
module

public import proofs.«01_k».proof.Proof.Words

@[expose] public section

/-!
# The first matrix of zeros and ones

It has a one in column `p` at the row of the first bit of pair `p`, and the 32 columns after the pairs have theirs on the
diagonal. Every entry is compared, a quarter of the columns at a time, by the kernel of Lean.
-/

namespace Cert.Energy

/-- Entry `(j, p)` of the first matrix is what it is said to be. -/
noncomputable def firstEntry (p j : Nat) : Bool :=
  decide (Cert.KernelIdeal.lit4t (j * 640 + p) = if (if p < 496 then pairA p = j else p = 496 + j) then 0x3F800000#32 else 0#32)

/-- The check of columns 0 to 159. -/
theorem first_part0 : allBelow (fun p => allBelow (fun j => firstEntry (p + 0) j) 32) 160 = true := by decide +kernel

/-- The check of columns 160 to 319. -/
theorem first_part1 : allBelow (fun p => allBelow (fun j => firstEntry (p + 160) j) 32) 160 = true := by decide +kernel

/-- The check of columns 320 to 479. -/
theorem first_part2 : allBelow (fun p => allBelow (fun j => firstEntry (p + 320) j) 32) 160 = true := by decide +kernel

/-- The check of columns 480 to 639. -/
theorem first_part3 : allBelow (fun p => allBelow (fun j => firstEntry (p + 480) j) 32) 160 = true := by decide +kernel

/-- The first matrix has a one in column `p` at the row of the first bit of pair `p`, or on the diagonal after the pairs; its other
    entries are zero. -/
theorem first_choice (p j : Nat) (hp : p < 640) (hj : j < 32) :
    Cert.KernelIdeal.lit4t (j * 640 + p) = if (if p < 496 then pairA p = j else p = 496 + j) then 0x3F800000#32 else 0#32 := by
  refine of_decide_eq_true (show firstEntry p j = true from ?_)
  rcases (by omega : p < 160 ∨ (160 ≤ p ∧ p < 320) ∨ (320 ≤ p ∧ p < 480) ∨ 480 ≤ p) with h | h | h | h
  · exact of_allBelow _ _ (of_allBelow _ _ first_part0 p h) j hj
  · have := of_allBelow _ _ (of_allBelow _ _ first_part1 (p - 160) (by omega)) j hj
    rwa [Nat.sub_add_cancel h.1] at this
  · have := of_allBelow _ _ (of_allBelow _ _ first_part2 (p - 320) (by omega)) j hj
    rwa [Nat.sub_add_cancel h.1] at this
  · have := of_allBelow _ _ (of_allBelow _ _ first_part3 (p - 480) (by omega)) j hj
    rwa [Nat.sub_add_cancel h] at this

end Cert.Energy
-- ==== Proof.Second.lean ====
module

public import proofs.«01_k».proof.Proof.Words

@[expose] public section

/-!
# The second matrix of zeros and ones

It has a one in column `p` at the row of the second bit of pair `p`, and the 32 columns after the pairs have theirs on the
diagonal. Every entry is compared, a quarter of the columns at a time, by the kernel of Lean.
-/

namespace Cert.Energy

/-- Entry `(j, p)` of the second matrix is what it is said to be. -/
noncomputable def secondEntry (p j : Nat) : Bool :=
  decide (Cert.KernelIdeal.lit5t (j * 640 + p) = if (if p < 496 then pairB p = j else p = 496 + j) then 0x3F800000#32 else 0#32)

/-- The check of columns 0 to 159. -/
theorem second_part0 : allBelow (fun p => allBelow (fun j => secondEntry (p + 0) j) 32) 160 = true := by decide +kernel

/-- The check of columns 160 to 319. -/
theorem second_part1 : allBelow (fun p => allBelow (fun j => secondEntry (p + 160) j) 32) 160 = true := by decide +kernel

/-- The check of columns 320 to 479. -/
theorem second_part2 : allBelow (fun p => allBelow (fun j => secondEntry (p + 320) j) 32) 160 = true := by decide +kernel

/-- The check of columns 480 to 639. -/
theorem second_part3 : allBelow (fun p => allBelow (fun j => secondEntry (p + 480) j) 32) 160 = true := by decide +kernel

/-- The second matrix has a one in column `p` at the row of the second bit of pair `p`, or on the diagonal after the pairs; its other
    entries are zero. -/
theorem second_choice (p j : Nat) (hp : p < 640) (hj : j < 32) :
    Cert.KernelIdeal.lit5t (j * 640 + p) = if (if p < 496 then pairB p = j else p = 496 + j) then 0x3F800000#32 else 0#32 := by
  refine of_decide_eq_true (show secondEntry p j = true from ?_)
  rcases (by omega : p < 160 ∨ (160 ≤ p ∧ p < 320) ∨ (320 ≤ p ∧ p < 480) ∨ 480 ≤ p) with h | h | h | h
  · exact of_allBelow _ _ (of_allBelow _ _ second_part0 p h) j hj
  · have := of_allBelow _ _ (of_allBelow _ _ second_part1 (p - 160) (by omega)) j hj
    rwa [Nat.sub_add_cancel h.1] at this
  · have := of_allBelow _ _ (of_allBelow _ _ second_part2 (p - 320) (by omega)) j hj
    rwa [Nat.sub_add_cancel h.1] at this
  · have := of_allBelow _ _ (of_allBelow _ _ second_part3 (p - 480) (by omega)) j hj
    rwa [Nat.sub_add_cancel h] at this

end Cert.Energy
-- ==== Proof.Matrices.lean ====
module

public import proofs.«01_k».proof.Proof.Entry
public import proofs.«01_k».proof.Proof.Writes
public import proofs.«01_k».proof.Proof.Triples
public import proofs.«01_k».proof.Proof.First
public import proofs.«01_k».proof.Proof.Second
public import Idealize.ShloMosaic.PureOps.Ideal
public import Idealize.ShloMosaic.Lib.Pointwise

@[expose] public section

/-!
# The launch's matrix and offsets at an index

Over the real numbers the three matrices and the row of offsets are read entry by entry: ones where a bit belongs to a
column, the weight of a triple at the row of its first bit and the column of its other two, the weight of a single bit
after the pairs, and the weight of a pair in the row of offsets.
-/

noncomputable section

namespace Cert.Energy

open Idealize.ShloMosaic Idealize.ShloMosaic.Routing Cert.KernelIdeal Cert.KernelIdeal.Gen

/-- The first matrix: a one in each pair's column at the pair's first bit, and a diagonal of ones after the pairs. -/
def choiceA (j : Fin 32) (p : Fin 640) : ℝ := if (if p.val < 496 then pairA p.val = j.val else p.val = 496 + j.val) then 1 else 0

/-- The second matrix: the same with each pair's second bit. -/
def choiceB (j : Fin 32) (p : Fin 640) : ℝ := if (if p.val < 496 then pairB p.val = j.val else p.val = 496 + j.val) then 1 else 0

/-- The matrix of weights: at row `i`, the weight of bit `i` in column `496 + i`, and in each pair's column the weight of the
    triple made of `i` and that pair. -/
def weightAt (W : Fin 5488 → ℝ) (i : Fin 32) (p : Fin 640) : ℝ :=
  if p.val = 496 + i.val then W ⟨i.val, by omega⟩
  else ∑ t : Fin 4960, if row t.val = i.val ∧ col t.val = p.val then W ⟨528 + t.val, by omega⟩ else 0

/-- The offsets: each pair's weight in its column, zero after the pairs. -/
def offsetAt (W : Fin 5488 → ℝ) (p : Fin 640) : ℝ := if h : p.val < 496 then W ⟨32 + p.val, by omega⟩ else 0

/-- The word of one or of zero, as a real number. -/
theorem one_or_zero (P : Prop) [Decidable P] :
    (FloatOps.ofBits .f32 (if P then 0x3F800000#32 else 0#32) : Ideal .f32) = ((if P then 1 else 0 : ℝ) : EReal) := by
  split
  · exact Ideal.ofBits_one_f32
  · exact Ideal.ofBits_zero_f32

/-- An entry of the first matrix. -/
theorem first_read (j : Fin 32) (p : Fin 640) : firstMatrix (F := Ideal) (ix2 j p) = (choiceA j p : EReal) := by
  have e : S32x640.rowMajor (ix2 j p) = (⟨j.val * 640 + p.val, by omega⟩ : Fin 20480) := Fin.ext (Shape.rowMajor_val_two _)
  show FloatOps.ofBits .f32 (lit4 (S32x640.rowMajor (ix2 j p))) = _
  rw [e]
  show FloatOps.ofBits .f32 (lit4t (j.val * 640 + p.val)) = _
  rw [first_choice p.val j.val p.isLt j.isLt]
  exact one_or_zero _

/-- An entry of the second matrix. -/
theorem second_read (j : Fin 32) (p : Fin 640) : secondMatrix (F := Ideal) (ix2 j p) = (choiceB j p : EReal) := by
  have e : S32x640.rowMajor (ix2 j p) = (⟨j.val * 640 + p.val, by omega⟩ : Fin 20480) := Fin.ext (Shape.rowMajor_val_two _)
  show FloatOps.ofBits .f32 (lit5 (S32x640.rowMajor (ix2 j p))) = _
  rw [e]
  show FloatOps.ofBits .f32 (lit5t (j.val * 640 + p.val)) = _
  rw [second_choice p.val j.val p.isLt j.isLt]
  exact one_or_zero _

/-- The row word of a triple. -/
theorem triple_row_word (t : Fin 4960) : triplePlaces (ix2 t 0) = lit0t t.val := by
  have e : S4960.rowMajor (ix1 t) = (⟨t.val, t.isLt⟩ : Fin 4960) := Fin.ext (Shape.rowMajor_val_one _)
  unfold triplePlaces tripleColumns
  pointwise
  rw [e]

/-- The column word of a triple. -/
theorem triple_col_word (t : Fin 4960) : triplePlaces (ix2 t 1) = lit1t t.val := by
  have e : S4960.rowMajor (ix1 t) = (⟨t.val, t.isLt⟩ : Fin 4960) := Fin.ext (Shape.rowMajor_val_one _)
  unfold triplePlaces tripleColumns
  pointwise
  rw [e]

/-- The row word of a single bit. -/
theorem single_row_word (q : Fin 32) : singlePlaces (ix2 q 0) = BitVec.ofNat 32 q.val := by
  have e : S32.rowMajor (ix1 q) = (⟨q.val, q.isLt⟩ : Fin 32) := Fin.ext (Shape.rowMajor_val_one _)
  rw [← single_row q]
  unfold singlePlaces singleColumns
  pointwise
  rw [e]

/-- The column word of a single bit. -/
theorem single_col_word (q : Fin 32) : singlePlaces (ix2 q 1) = BitVec.ofNat 32 (496 + q.val) := by
  have e : S32.rowMajor (ix1 q) = (⟨q.val, q.isLt⟩ : Fin 32) := Fin.ext (Shape.rowMajor_val_one _)
  rw [← single_col q]
  unfold singlePlaces singleColumns
  pointwise
  rw [e]

/-- Both words of the pairs' place are zero. -/
theorem pair_place_word (k : S2.Idx) : pairPlace k = 0 := by
  obtain ⟨i, rfl⟩ : ∃ i : Fin 2, k = ix1 i := ⟨k 0, eq_ix1 k⟩
  unfold pairPlace twoWords
  pointwise
  split <;> rfl

/-- A small word read signed is the number it stands for. -/
theorem small_toInt (x : BitVec 32) (h : x.toNat < 1000) : x.toInt = (x.toNat : Int) :=
  BitVec.toInt_eq_toNat_of_lt (by omega)

/-- A triple's weight lands at its row and column. -/
theorem triple_lands (t : Fin 4960) (i : Fin 32) (p : Fin 640) :
    scatter_S32x640_S4960x2_S4960_n_01_01_1.resultIdx? (ix1 t) triplePlaces = some (ix2 i p)
      ↔ row t.val = i.val ∧ col t.val = p.val := by
  have h := triple_place t.val t.isLt
  refine (point_lands scatter_S32x640_S4960x2_S4960_n_01_01_1_wf triplePlaces t i p).trans ?_
  have hr : (lit0t t.val).toInt = (row t.val : Int) := small_toInt _ (by have := h.1; unfold row at this; omega)
  have hc : (lit1t t.val).toInt = (col t.val : Int) := small_toInt _ (by have := h.2.1; unfold col at this; omega)
  show (triplePlaces (ix2 t 0)).toInt = (i.val : Int) ∧ (triplePlaces (ix2 t 1)).toInt = (p.val : Int) ↔ _
  rw [triple_row_word, triple_col_word, hr, hc]
  exact and_congr Nat.cast_inj Nat.cast_inj

/-- A single bit's weight lands at the bit's row, in its column after the pairs. -/
theorem single_lands (q : Fin 32) (i : Fin 32) (p : Fin 640) :
    scatter_S32x640_S32x2_S32_n_01_01_1.resultIdx? (ix1 q) singlePlaces = some (ix2 i p)
      ↔ q = i ∧ p.val = 496 + i.val := by
  refine (point_lands scatter_S32x640_S32x2_S32_n_01_01_1_wf singlePlaces q i p).trans ?_
  have nr : (BitVec.ofNat 32 q.val).toNat = q.val := by
    rw [BitVec.toNat_ofNat]
    exact Nat.mod_eq_of_lt (by omega)
  have nc : (BitVec.ofNat 32 (496 + q.val)).toNat = 496 + q.val := by
    rw [BitVec.toNat_ofNat]
    exact Nat.mod_eq_of_lt (by omega)
  show (singlePlaces (ix2 q 0)).toInt = (i.val : Int) ∧ (singlePlaces (ix2 q 1)).toInt = (p.val : Int) ↔ _
  rw [single_row_word, single_col_word, small_toInt _ (by omega), small_toInt _ (by omega), nr, nc, Nat.cast_inj, Nat.cast_inj,
    Fin.ext_iff]
  omega

/-- The matrix of the triples' weights at an index. -/
theorem triple_read (w : FVec Ideal S5488 .f32) (W : Fin 5488 → ℝ) (hw : ∀ n, w (ix1 n) = (W n : EReal)) (i : Fin 32) (p : Fin 640) :
    tripleMatrix (F := Ideal) w (ix2 i p)
      = ((∑ t : Fin 4960, if row t.val = i.val ∧ col t.val = p.val then W ⟨528 + t.val, by omega⟩ else 0 : ℝ) : EReal) := by
  have slice : ∀ t : Fin 4960, extractStridedSlice S4960 ![528] w slices_S5488_S4960_528 (ix1 t) = (W ⟨528 + t.val, by omega⟩ : EReal) := by
    intro t
    rw [← hw]
    pointwise
  unfold tripleMatrix
  by_cases ex : ∃ t : Fin 4960, row t.val = i.val ∧ col t.val = p.val
  · obtain ⟨t, ht⟩ := ex
    have only : ∀ u : Fin 4960, row u.val = i.val ∧ col u.val = p.val → u = t := fun u hu =>
      Fin.ext (place_inj u.val t.val u.isLt t.isLt (hu.1.trans ht.1.symm) (hu.2.trans ht.2.symm))
    rw [Finset.sum_eq_single t (fun u _ hu => if_neg fun h => hu (only u h)) (fun h => absurd (Finset.mem_univ t) h), if_pos ht]
    refine scatter_set_hit _ _ _ _ _ _ (fun k hk => ?_) (ix1 t) ((triple_lands t i p).2 ht)
    obtain ⟨u, rfl⟩ : ∃ u : Fin 4960, k = ix1 u := ⟨k 0, eq_ix1 k⟩
    rw [only u ((triple_lands u i p).1 hk), slice]
  · rw [Finset.sum_eq_zero fun t _ => if_neg fun h => ex ⟨t, h⟩]
    refine (scatter_set_miss _ _ _ _ _ fun k hk => ?_).trans ?_
    · obtain ⟨u, rfl⟩ : ∃ u : Fin 4960, k = ix1 u := ⟨k 0, eq_ix1 k⟩
      exact ex ⟨u, (triple_lands u i p).1 hk⟩
    · exact Ideal.ofBits_zero_f32

/-- The matrix of weights at an index. -/
theorem weight_read (w : FVec Ideal S5488 .f32) (W : Fin 5488 → ℝ) (hw : ∀ n, w (ix1 n) = (W n : EReal)) (i : Fin 32) (p : Fin 640) :
    weightMatrix (F := Ideal) w (ix2 i p) = (weightAt W i p : EReal) := by
  unfold weightMatrix weightAt
  by_cases h : p.val = 496 + i.val
  · rw [if_pos h]
    refine scatter_set_hit _ _ _ _ _ _ (fun k hk => ?_) (ix1 i) ((single_lands i i p).2 ⟨rfl, h⟩)
    obtain ⟨q, rfl⟩ : ∃ q : Fin 32, k = ix1 q := ⟨k 0, eq_ix1 k⟩
    rw [((single_lands q i p).1 hk).1, ← hw]
    pointwise
  · rw [if_neg h, ← triple_read w W hw]
    refine scatter_set_miss _ _ _ _ _ fun k hk => ?_
    obtain ⟨q, rfl⟩ : ∃ q : Fin 32, k = ix1 q := ⟨k 0, eq_ix1 k⟩
    exact h ((single_lands q i p).1 hk).2

/-- The row of offsets at an index. -/
theorem offset_read (w : FVec Ideal S5488 .f32) (W : Fin 5488 → ℝ) (hw : ∀ n, w (ix1 n) = (W n : EReal)) (p : Fin 640) :
    offsets (F := Ideal) w (ix2 0 p) = (offsetAt W p : EReal) := by
  have lands := fun n : Fin 496 => row_lands scatter_S1x640_S2_S496_0_0_01_0_wf pairPlace pair_place_word n p
  unfold offsets offsetAt
  by_cases h : p.val < 496
  · rw [dif_pos h]
    refine scatter_set_hit _ _ _ _ _ _ (fun k hk => ?_) (ix1 ⟨p.val, h⟩) ((lands ⟨p.val, h⟩).2 rfl)
    obtain ⟨n, rfl⟩ : ∃ n : Fin 496, k = ix1 n := ⟨k 0, eq_ix1 k⟩
    have e : n = ⟨p.val, h⟩ := Fin.ext ((lands n).1 hk)
    rw [e, ← hw]
    pointwise
  · rw [dif_neg h]
    refine (scatter_set_miss _ _ _ _ _ fun k hk => ?_).trans Ideal.ofBits_zero_f32
    obtain ⟨n, rfl⟩ : ∃ n : Fin 496, k = ix1 n := ⟨k 0, eq_ix1 k⟩
    have e := (lands n).1 hk
    omega

/-- Entry `(i, p)` of the launch's matrix, over its three groups of columns. -/
theorem combined_first (w : FVec Ideal S5488 .f32) (i : Fin 32) (p : Fin 640) :
    combined (F := Ideal) w (ix2 i ⟨p.val, by omega⟩) = (choiceA i p : EReal) := by
  rw [← first_read]
  unfold combined sideBySide
  pointwise

/-- Its second group. -/
theorem combined_second (w : FVec Ideal S5488 .f32) (i : Fin 32) (p : Fin 640) :
    combined (F := Ideal) w (ix2 i ⟨640 + p.val, by omega⟩) = (choiceB i p : EReal) := by
  rw [← second_read]
  unfold combined sideBySide
  pointwise

/-- Its third group. -/
theorem combined_third (w : FVec Ideal S5488 .f32) (W : Fin 5488 → ℝ) (hw : ∀ n, w (ix1 n) = (W n : EReal)) (i : Fin 32) (p : Fin 640) :
    combined (F := Ideal) w (ix2 i ⟨1280 + p.val, by omega⟩) = (weightAt W i p : EReal) := by
  have e : (⟨1280 + p.val - 640 - 640, by omega⟩ : Fin 640) = p := Fin.ext (by show 1280 + p.val - 640 - 640 = p.val; omega)
  rw [← weight_read w W hw]
  unfold combined sideBySide
  pointwise
  rw [dif_neg (by omega), dif_neg (by omega), e]

end Cert.Energy
-- ==== Proof.Sums.lean ====
module

public import Mathlib.Data.EReal.Operations
public import Mathlib.Algebra.BigOperators.Fin
public import Mathlib.Tactic.Ring

@[expose] public section

/-!
# The energy as a sum of real numbers

The kernel writes the energy of one bitstring as one sum over 640 columns: the pairs of bits, then each bit on its own, then
padding. In each column it multiplies two spins and a third factor, itself a sum over the 32 bits. When every spin squares to
one, that sum is the sum of the weighted products of one, two and three spins.
-/

namespace Cert.Energy

/-- A finite sum of real numbers is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 640 columns, cut into the 496 pairs, the 32 bits and the 112 columns of padding. -/
theorem sum_columns (f : Fin 640 → ℝ) :
    ∑ p, f p = ∑ p : Fin 496, f ⟨p.val, by omega⟩ + ∑ q : Fin 32, f ⟨496 + q.val, by omega⟩
      + ∑ u : Fin 112, f ⟨528 + u.val, by omega⟩ := by
  rw [show (∑ p, f p) = ∑ p : Fin (496 + 32 + 112), f p from rfl, Fin.sum_univ_add, Fin.sum_univ_add]
  rfl

/-- A sum over all 5488 weights, cut into those of one, of two and of three bits. -/
theorem sum_weights (f : Fin 5488 → ℝ) :
    ∑ n, f n = ∑ q : Fin 32, f ⟨q.val, by omega⟩ + ∑ p : Fin 496, f ⟨32 + p.val, by omega⟩
      + ∑ t : Fin 4960, f ⟨528 + t.val, by omega⟩ := by
  rw [show (∑ n, f n) = ∑ n : Fin (32 + 496 + 4960), f n from rfl, Fin.sum_univ_add, Fin.sum_univ_add]
  rfl

/-- A column with a single one picks the spin of its row. -/
theorem pick (s : Fin 32 → ℝ) (E : Fin 32 → ℝ) (a : Fin 32) (h : ∀ j, E j = if a = j then 1 else 0) : ∑ j, s j * E j = s a := by
  simp [h]

/-- The 640 columns add up to the energy: the weighted products of one, of two and of three spins. -/
theorem energy (s : Fin 32 → ℝ) (hs : ∀ i, s i * s i = 1) (w1 : Fin 32 → ℝ) (w2 : Fin 496 → ℝ) (w3 : Fin 4960 → ℝ)
    (r : Fin 4960 → Fin 32) (k : Fin 4960 → Fin 496) (a b : Fin 496 → Fin 32)
    (EJ EK W : Fin 32 → Fin 640 → ℝ) (v : Fin 640 → ℝ)
    (hJ1 : ∀ j (p : Fin 496), EJ j ⟨p.val, by omega⟩ = if a p = j then 1 else 0)
    (hJ2 : ∀ j (q : Fin 32), EJ j ⟨496 + q.val, by omega⟩ = if q = j then 1 else 0)
    (hJ3 : ∀ j (u : Fin 112), EJ j ⟨528 + u.val, by omega⟩ = 0)
    (hK1 : ∀ j (p : Fin 496), EK j ⟨p.val, by omega⟩ = if b p = j then 1 else 0)
    (hK2 : ∀ j (q : Fin 32), EK j ⟨496 + q.val, by omega⟩ = if q = j then 1 else 0)
    (hW1 : ∀ i (p : Fin 496), W i ⟨p.val, by omega⟩ = ∑ t, if r t = i ∧ k t = p then w3 t else 0)
    (hW2 : ∀ i (q : Fin 32), W i ⟨496 + q.val, by omega⟩ = if q = i then w1 q else 0)
    (hv1 : ∀ p : Fin 496, v ⟨p.val, by omega⟩ = w2 p) (hv2 : ∀ q : Fin 32, v ⟨496 + q.val, by omega⟩ = 0) :
    ∑ p, (∑ j, s j * EJ j p) * (∑ j, s j * EK j p) * ((∑ i, s i * W i p) + v p)
      = ∑ q, s q * w1 q + ∑ p, s (a p) * s (b p) * w2 p + ∑ t, s (r t) * s (a (k t)) * s (b (k t)) * w3 t := by
  rw [sum_columns]
  have hpad : ∀ u : Fin 112, (∑ j, s j * EJ j ⟨528 + u.val, by omega⟩) = 0 := fun u => by simp [hJ3]
  have hone : ∀ q : Fin 32, (∑ i, s i * W i ⟨496 + q.val, by omega⟩) = s q * w1 q := fun q => by simp [hW2]
  have htwo : ∀ p : Fin 496, (∑ i, s i * W i ⟨p.val, by omega⟩) = ∑ t, if k t = p then s (r t) * w3 t else 0 := fun p => by
    simp only [hW1, Finset.mul_sum]
    rw [Finset.sum_comm]
    refine Finset.sum_congr rfl fun t _ => ?_
    rw [Finset.sum_eq_single (r t) (fun i _ hi => by rw [if_neg fun h => hi h.1.symm, mul_zero]) (by simp)]
    by_cases h : k t = p <;> simp [h]
  simp only [hpad, hone, htwo, pick s _ _ fun j => hJ1 j _, pick s _ _ fun j => hJ2 j _, pick s _ _ fun j => hK1 j _,
    pick s _ _ fun j => hK2 j _, hv1, hv2, hs, zero_mul, Finset.sum_const_zero, add_zero, one_mul]
  have hthree : ∑ p, s (a p) * s (b p) * (∑ t, if k t = p then s (r t) * w3 t else 0)
      = ∑ t, s (r t) * s (a (k t)) * s (b (k t)) * w3 t := by
    simp only [Finset.mul_sum]
    rw [Finset.sum_comm]
    refine Finset.sum_congr rfl fun t _ => ?_
    rw [Finset.sum_eq_single (k t) (fun p _ hp => by rw [if_neg fun h => hp h.symm, mul_zero]) (by simp), if_pos rfl]
    ring
  simp only [mul_add, Finset.sum_add_distrib]
  rw [hthree]
  ring

end Cert.Energy
-- ==== Proof.Payload.lean ====
module

public import proofs.«01_k».proof.Proof.Gen.KernelIdeal.Skeleton
public import proofs.«01_k».proof.Proof.Sums
public import Idealize.ShloMosaic.PureOps.Ideal
public import Idealize.ShloMosaic.Lib.Pointwise

@[expose] public section

/-!
# One block of the kernel

The kernel turns a block of bits into spins, multiplies them by a matrix of three groups of 640 columns, and adds up over the
columns the product of the first group, the second, and the third with an offset. Read at one row.
-/

noncomputable section

namespace Cert.Energy

open Idealize.ShloMosaic Cert.KernelIdeal Cert.KernelIdeal.Gen

/-- The spin of a bit: `1 - 2 x`, computed in words, as a real number. -/
def spin (x : BitVec 32) : ℝ := ((1#32 - 2#32 * x).toInt : ℝ)

/-- Entry `r` of a block's result, as the payload computes it from the words and the two arrays. -/
theorem payload_read (x : Vec Ideal S2048x32 .i32) (y : Vec Ideal S32x1920 .f32) (z : Vec Ideal S1x640 .f32) (r : Fin 2048) :
    k0_pay1 (F := Ideal) x y z (ix2 r (0 : Fin 1))
      = ∑ p : Fin 640, (∑ j : Fin 32, (spin (x (ix2 r j)) : EReal) * y (ix2 j ⟨p.val, by omega⟩))
          * (∑ j : Fin 32, (spin (x (ix2 r j)) : EReal) * y (ix2 j ⟨640 + p.val, by omega⟩))
          * ((∑ j : Fin 32, (spin (x (ix2 r j)) : EReal) * y (ix2 j ⟨1280 + p.val, by omega⟩)) + z (ix2 (0 : Fin 1) p)) := by
  unfold k0_pay1
  pointwise
  rfl

/-- The same over arrays of real numbers: the entry is a real number. -/
theorem payload_real (x : Vec Ideal S2048x32 .i32) (y : Vec Ideal S32x1920 .f32) (z : Vec Ideal S1x640 .f32) (r : Fin 2048)
    (Y : Fin 32 → Fin 1920 → ℝ) (Z : Fin 640 → ℝ) (hy : ∀ j c, y (ix2 j c) = (Y j c : EReal))
    (hz : ∀ p, z (ix2 (0 : Fin 1) p) = (Z p : EReal)) :
    k0_pay1 (F := Ideal) x y z (ix2 r (0 : Fin 1))
      = ((∑ p : Fin 640, (∑ j : Fin 32, spin (x (ix2 r j)) * Y j ⟨p.val, by omega⟩)
          * (∑ j : Fin 32, spin (x (ix2 r j)) * Y j ⟨640 + p.val, by omega⟩)
          * ((∑ j : Fin 32, spin (x (ix2 r j)) * Y j ⟨1280 + p.val, by omega⟩) + Z p) : ℝ) : EReal) := by
  rw [payload_read]
  simp only [hy, hz, coe_sum, EReal.coe_mul, EReal.coe_add]

end Cert.Energy
-- ==== Proof.KernelValue.lean ====
module

public import proofs.«01_k».proof.Proof.Gen.KernelIdeal.Value
public import proofs.«01_k».proof.Proof.Matrices
public import proofs.«01_k».proof.Proof.Payload

@[expose] public section

/-!
# The kernel's result array

Grid point `t` writes rows `2048 t` to `2048 t + 2047` of the result, from the same rows of the bits and from the whole matrix
and row of offsets. Over real weights each entry is one sum over the 640 columns.
-/

noncomputable section

namespace Cert.Energy

open Idealize.ShloMosaic Idealize.ShloMosaic.TcCoe Idealize.SL.Sem Cert.KernelIdeal Cert.KernelIdeal.Gen
open Idealize.ShloMosaic.Pipeline (Dat)

/-- What one row of spins comes to: over the columns, the first choice times the second times the weights with the offset. -/
def rowSum (s : Fin 32 → ℝ) (W : Fin 5488 → ℝ) : ℝ :=
  ∑ p : Fin 640, (∑ j, s j * choiceA j p) * (∑ j, s j * choiceB j p) * ((∑ j, s j * weightAt W j p) + offsetAt W p)

/-- The result array, from the bits and the real weights. -/
def kernelResult (x : S16384x32.Idx → BitVec 32) (W : Fin 5488 → ℝ) : S16384x1.Idx → EReal :=
  fun i => (rowSum (fun j => spin (x (ix2 (i 0) j))) W : EReal)

/-- The three groups of columns of the launch's matrix as one array of reals. -/
def columns (W : Fin 5488 → ℝ) (j : Fin 32) (c : Fin 1920) : ℝ :=
  if h : c.val < 640 then choiceA j ⟨c.val, h⟩
  else if h' : c.val < 1280 then choiceB j ⟨c.val - 640, by omega⟩ else weightAt W j ⟨c.val - 1280, by omega⟩

/-- The launch's matrix holds those reals. -/
theorem combined_columns (w : FVec Ideal S5488 .f32) (W : Fin 5488 → ℝ) (hw : ∀ n, w (ix1 n) = (W n : EReal)) (j : Fin 32) (c : Fin 1920) :
    combined (F := Ideal) w (ix2 j c) = (columns W j c : EReal) := by
  unfold columns
  by_cases h : c.val < 640
  · rw [dif_pos h]
    exact combined_first w j ⟨c.val, h⟩
  · rw [dif_neg h]
    by_cases h' : c.val < 1280
    · rw [dif_pos h', ← combined_second w]
      exact congrArg (fun k => combined w (ix2 j k)) (Fin.ext (by show c.val = 640 + (c.val - 640); omega))
    · rw [dif_neg h', ← combined_third w W hw]
      exact congrArg (fun k => combined w (ix2 j k)) (Fin.ext (by show c.val = 1280 + (c.val - 1280); omega))

/-- An entry of a block's result, from a row of bits and real weights. -/
theorem block_entry (x : Vec Ideal S2048x32 .i32) (w : FVec Ideal S5488 .f32) (W : Fin 5488 → ℝ) (hw : ∀ n, w (ix1 n) = (W n : EReal))
    (r : Fin 2048) :
    k0_pay1 (F := Ideal) x (combined (F := Ideal) w) (offsets (F := Ideal) w) (ix2 r (0 : Fin 1))
      = (rowSum (fun j => spin (x (ix2 r j))) W : EReal) := by
  rw [payload_real x _ _ r (columns W) (offsetAt W) (combined_columns w W hw) (offset_read w W hw)]
  refine congrArg _ (Finset.sum_congr rfl fun p _ => ?_)
  have c1 : ∀ j, columns W j ⟨p.val, by omega⟩ = choiceA j p := fun j => dif_pos p.isLt
  have c2 : ∀ j, columns W j ⟨640 + p.val, by omega⟩ = choiceB j p := fun j => by
    unfold columns
    rw [dif_neg (by show ¬ 640 + p.val < 640; omega), dif_pos (by show 640 + p.val < 1280; omega)]
    exact congrArg (choiceB j) (Fin.ext (by show 640 + p.val - 640 = p.val; omega))
  have c3 : ∀ j, columns W j ⟨1280 + p.val, by omega⟩ = weightAt W j p := fun j => by
    unfold columns
    rw [dif_neg (by show ¬ 1280 + p.val < 640; omega), dif_neg (by show ¬ 1280 + p.val < 1280; omega)]
    exact congrArg (weightAt W j) (Fin.ext (by show 1280 + p.val - 1280 = p.val; omega))
  simp only [c1, c2, c3]

variable (m : (ℓ : Loc nD τ sig) → Buf (Elt Ideal) ℓ) (ρ : Dev nD → PrngReg)

/-- Offsets of zero on both axes. -/
theorem no_offset : (![0, 0] : Fin 2 → Nat) = fun _ => 0 := funext fun a => by fin_cases a <;> rfl

/-- Point `t` reads and writes at row block `t`, and the matrix and the offsets whole. -/
theorem block_index (t : Fin cfg0.N) : win0_0.index t 0 = t.val ∧ win0_0.index t 1 = 0 ∧ win0_3.index t 0 = t.val ∧ win0_3.index t 1 = 0
    ∧ win0_1.index t 0 = 0 ∧ win0_1.index t 1 = 0 ∧ win0_2.index t 0 = 0 ∧ win0_2.index t 1 = 0 := by
  rcases fin_N0 t with rfl | rfl | rfl | rfl | rfl | rfl | rfl | rfl <;> decide +kernel

/-- There are eight points. -/
theorem point_lt (t : Fin cfg0.N) : t.val < 8 := t.isLt.trans_eq N_0

/-- The block of bits at point `t` is rows `2048 t` onwards. -/
theorem bits_read (c : Dev nD) (t : Fin cfg0.N) (r : Fin 2048) (j : Fin 32) :
    iblk m c 0 t (ix2 r j) = m ((c : Thread nD τ).loc main_arg0)
      (ix2 (⟨t.val * 2048 + r.val, by have := point_lt t; omega⟩ : Fin 16384) j) := by
  have h := block_index t
  show (((cfg0.win 0).blk t).view.read (Elt Ideal) (V m c main_arg0)) (ix2 r j) = _
  rw [V_main_arg0]
  refine congrArg (m ((c : Thread nD τ).loc main_arg0)) (funext fun a => Fin.ext ?_)
  match a with
  | ⟨0, _⟩ =>
    show win0_0.index t 0 * 2048 + 1 * r.val = t.val * 2048 + r.val
    rw [h.1]; omega
  | ⟨1, _⟩ =>
    show win0_0.index t 1 * 32 + 1 * j.val = j.val
    rw [h.2.1]; omega

/-- The matrix's block is the whole matrix. -/
theorem matrix_read (c : Dev nD) (t : Fin cfg0.N) :
    iblk m c 1 t = combined (F := Ideal) (m ((c : Thread nD τ).loc main_arg1)) := by
  have h := block_index t
  rw [← entry_combined m c]
  have hz : (fun a => (win0_1.index t) a * main_v29.ty.shape.size a) = fun _ => 0 := funext fun a => by
    match a with
    | ⟨0, _⟩ => show win0_1.index t 0 * 32 = 0; rw [h.2.2.2.2.1]
    | ⟨1, _⟩ => show win0_1.index t 1 * 1920 = 0; rw [h.2.2.2.2.2.1]
  exact Memref.read_access_unit_zero (Elt Ideal) main_v29 hz (fun a => by rw [congrFun hz a]; omega) _

/-- The offsets' block is the whole row. -/
theorem offset_row_read (c : Dev nD) (t : Fin cfg0.N) :
    iblk m c 2 t = offsets (F := Ideal) (m ((c : Thread nD τ).loc main_arg1)) := by
  have h := block_index t
  rw [← entry_offsets m c]
  have hz : (fun a => (win0_2.index t) a * main_v28.ty.shape.size a) = fun _ => 0 := funext fun a => by
    match a with
    | ⟨0, _⟩ => show win0_2.index t 0 * 1 = 0; rw [h.2.2.2.2.2.2.1]
    | ⟨1, _⟩ => show win0_2.index t 1 * 640 = 0; rw [h.2.2.2.2.2.2.2]
  exact Memref.read_access_unit_zero (Elt Ideal) main_v28 hz (fun a => by rw [congrFun hz a]; omega) _

/-- What point `t` writes back is block `t` of the result. -/
theorem flushed_result (c : Dev nD) (W : Fin 5488 → ℝ) (hw : ∀ n, m ((c : Thread nD τ).loc main_arg1) (ix1 n) = (W n : EReal)) (t : Fin cfg0.N) :
    (dats m 0 c).flushed 3 t = ((cfg0.win 3).blk t).view.read (Elt Ideal) (kernelResult (m ((c : Thread nD τ).loc main_arg0)) W) := by
  have h := block_index t
  rw [Value.flushed3]
  unfold out0_3
  rw [View.canon_unit_zero no_offset, View.ld_unit_zero no_offset, View.ld_unit_zero no_offset, View.ld_unit_zero no_offset,
    matrix_read, offset_row_read]
  funext k
  obtain ⟨r, rfl⟩ : ∃ r : Fin 2048, k = ix2 r (0 : Fin 1) := ⟨k 0, (eq_ix2 k).trans (congrArg (ix2 (k 0)) (Subsingleton.elim _ _))⟩
  show k0_pay1 (F := Ideal) (iblk m c 0 t) (combined (F := Ideal) (m ((c : Thread nD τ).loc main_arg1)))
    (offsets (F := Ideal) (m ((c : Thread nD τ).loc main_arg1))) (ix2 r (0 : Fin 1)) = _
  refine (block_entry (iblk m c 0 t) _ W hw r).trans ?_
  refine congrArg (fun s : Fin 32 → ℝ => ((rowSum s W : ℝ) : EReal)) (funext fun j => ?_)
  refine congrArg spin ((bits_read m c t r j).trans (congrArg (m ((c : Thread nD τ).loc main_arg0)) ?_))
  refine congrArg (fun i : Fin 16384 => (ix2 i j : S16384x32.Idx)) (Fin.ext ?_)
  show t.val * 2048 + r.val = win0_3.index t 0 * 2048 + 1 * r.val
  rw [h.2.2.1]; omega

/-- An index of the result is in point `t`'s block when its row is one of the block's. -/
theorem mem_block (t : Fin cfg0.N) (i : S16384x1.Idx) :
    i ∈ ((cfg0.win 3).blk t).view.set ↔ t.val * 2048 ≤ (i 0 : Nat) ∧ (i 0 : Nat) < t.val * 2048 + 2048 := by
  have h := block_index t
  show i ∈ ((View.whole main_v30).slice (win0_3.rect t)).set ↔ _
  rw [View.set_slice_whole, Rect.mem_set_unit]
  have h1 : (i 1 : Nat) < 1 := (i 1).isLt
  refine ⟨fun g => ?_, fun g a => ?_⟩
  · have : win0_3.index t 0 * 2048 ≤ (i 0 : Nat) ∧ (i 0 : Nat) < win0_3.index t 0 * 2048 + 2048 := g 0
    rwa [h.2.2.1] at this
  · match a with
    | ⟨0, _⟩ =>
      show win0_3.index t 0 * 2048 ≤ (i 0 : Nat) ∧ (i 0 : Nat) < win0_3.index t 0 * 2048 + 2048
      rwa [h.2.2.1]
    | ⟨1, _⟩ =>
      show win0_3.index t 1 * 1 ≤ (i 1 : Nat) ∧ (i 1 : Nat) < win0_3.index t 1 * 1 + 1
      rw [h.2.2.2.1]; omega

/-- Every row of the result is in some point's block. -/
theorem covered (i : S16384x1.Idx) : ∃ t : Fin cfg0.N, (cfg0.win 3).flush t = true ∧ i ∈ ((cfg0.win 3).blk t).view.set := by
  have h0 : (i 0 : Nat) < 16384 := (i 0).isLt
  have hN : cfg0.N = 8 := N_0
  refine ⟨⟨(i 0 : Nat) / 2048, by omega⟩, flush0_3 _, ?_⟩
  rw [mem_block]
  dsimp only
  omega

/-- So the result array ends holding the result. -/
theorem final_result (c : Dev nD) (W : Fin 5488 → ℝ) (hw : ∀ n, m ((c : Thread nD τ).loc main_arg1) (ix1 n) = (W n : EReal)) :
    (dats m 0 c).arrAt 3 cfg0.N = kernelResult (m ((c : Thread nD τ).loc main_arg0)) W :=
  (dats m 0 c).arrAt_eq_of_cover 3 _ (fun t _ => flushed_result m c W hw t) covered

/-- Every run of the kernel ends with the result in its array and the arguments as they were. -/
theorem kernel_run (W : Dev nD → Fin 5488 → ℝ) (hw : ∀ (c : Dev nD) n, m ((c : Thread nD τ).loc main_arg1) (ix1 n) = (W c n : EReal)) :
    θ_run defs (onTc (τ := τ) (main (F := Ideal))) ⟨m, fun _ => 0, ρ⟩ fun r => ∀ c : Dev nD,
      r.2.mem ((c : Thread nD τ).loc main_v30) = kernelResult (m ((c : Thread nD τ).loc main_arg0)) (W c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_result m c (W c) (hw c)), (h c).2⟩) (Value.run_blocks m ρ)

end Cert.Energy
-- ==== Proof.Reads.lean ====
module

public import Idealize.ShloMosaic.Lib.Routing.OpsSet
public import Idealize.ShloMosaic.Lib.ValueIdx

@[expose] public section

/-!
# Columns taken by a table of words

A table of `R × C` words takes columns of a matrix: entry `(b, r, c)` of the result is row `b` of the matrix at the
column that word `(r, c)` names.
-/

namespace Cert.Energy

open Idealize.ShloMosaic Idealize.ShloMosaic.ValueIdx Idealize.ShloMosaic.Routing

/-- The gather of columns of a `B × M` matrix by a table of `R × C` words. -/
abbrev columnReads (B M R C : Nat)
    (wf : GatherDims.WF (shape2 B M) ⟨3, ![R, C, 1]⟩ ⟨3, ![B, R, C]⟩ [0] [1] [] [1] [] 2 ![B, 1]) :
    GatherDims (shape2 B M) ⟨3, ![R, C, 1]⟩ ⟨3, ![B, R, C]⟩ where
  offsetDims := [0]
  collapsedSliceDims := [1]
  operandBatchingDims := []
  startIndicesBatchingDims := []
  startIndexMap := [1]
  indexVectorDim := 2
  sliceSizes := ![B, 1]
  wf := wf

/-- Its entry `(b, r, c)` is the matrix at row `b` and at the column word `(r, c)` names, for a word that names one. -/
theorem column_read {α : Type} {B M R C : Nat}
    (wf : GatherDims.WF (shape2 B M) ⟨3, ![R, C, 1]⟩ ⟨3, ![B, R, C]⟩ [0] [1] [] [1] [] 2 ![B, 1])
    (x : (shape2 B M).Idx → α) (idx : IVec ⟨3, ![R, C, 1]⟩ 32) (b : Fin B) (r : Fin R) (c : Fin C) (k : Fin M)
    (hk : (idx (ix3 r c 0)).toInt = k.val) :
    Host.gather (columnReads B M R C wf) x idx (ix3 b r c) = x (ix2 b k) := by
  unfold Host.gather
  refine congrArg x (funext fun a => Fin.ext ?_)
  show (columnReads B M R C wf).start (ix3 b r c) idx a + (columnReads B M R C wf).batchCoord (ix3 b r c) a
    + (columnReads B M R C wf).offCoord (ix3 b r c) a = _
  rw [GatherDims.batchCoord_eq_zero _ _ _ List.not_mem_nil]
  match a with
  | ⟨0, _⟩ =>
    have hs : (columnReads B M R C wf).start (ix3 b r c) idx (0 : Fin 2) = 0 := by
      unfold GatherDims.start
      exact dif_neg (by show ¬ (0 : Fin 2) ∈ ([1] : List (Fin 2)); decide)
    have ho : (columnReads B M R C wf).offCoord (ix3 b r c) (0 : Fin 2) = b.val := rfl
    refine (congrArg₂ (fun p q => p + 0 + q) hs ho).trans ?_
    show 0 + 0 + b.val = b.val
    omega
  | ⟨1, _⟩ =>
    have ho : (columnReads B M R C wf).offCoord (ix3 b r c) (1 : Fin 2) = 0 := rfl
    have hs : (columnReads B M R C wf).start (ix3 b r c) idx (1 : Fin 2) = min (idx (ix3 r c 0)).toInt.toNat (M - 1) := by
      unfold GatherDims.start
      rw [dif_pos (show (1 : Fin 2) ∈ (columnReads B M R C wf).startIndexMap from List.mem_singleton.mpr rfl)]
      refine congrArg (fun i => min (idx i).toInt.toNat (M - 1)) (funext fun d => Fin.ext ?_)
      match d with
      | ⟨0, _⟩ => rfl
      | ⟨1, _⟩ => rfl
      | ⟨2, _⟩ => rfl
    refine (congrArg₂ (fun p q => p + 0 + q) hs ho).trans ?_
    show min (idx (ix3 r c 0)).toInt.toNat (M - 1) + 0 + 0 = k.val
    have := k.isLt
    rw [hk]
    omega

end Cert.Energy
-- ==== Proof.ReferenceValue.lean ====
module

public import proofs.«01_k».proof.Proof.Gen.ReferenceIdeal.Run
public import proofs.«01_k».proof.Proof.Reads
public import proofs.«01_k».proof.Proof.Triples
public import proofs.«01_k».proof.Proof.Payload
public import Idealize.ShloMosaic.Lib.Pointwise

@[expose] public section

/-!
# The reference's result array

The reference takes the spins of each bit, pair and triple by its tables of bit numbers, multiplies the spins of a
pair or triple, and sums the products times the weights. Read at one row, over real weights.
-/

noncomputable section

namespace Cert.Energy

open Idealize.ShloMosaic Idealize.ShloMosaic.Routing Idealize.ShloMosaic.TcCoe Idealize.SL.Sem
open Cert.ReferenceIdeal Cert.ReferenceIdeal.Gen

/-- The spins of the bits. -/
def spins (x : IVec S16384x32 32) : FVec Ideal S16384x32 .f32 :=
  sitofp .f32 (subi (broadcastInDim S16384x32 ![] bcast_S_S16384x32 (constantI S_ 32 1#32))
    (muli (broadcastInDim S16384x32 ![] bcast_S_S16384x32 (constantI S_ 32 2#32)) x))

/-- The spins of the single bits, by their table. -/
def singleSpins (s : FVec Ideal S16384x32 .f32) : FVec Ideal S16384x32x1 .f32 :=
  Host.gather gather_S16384x32_S32x1x1_S16384x32x1_0_1_n_n_1_2_163841 s
    (broadcastInDim S32x1x1 ![0, 1] bcast_S32x1_S32x1x1_0_1 (select (constantI S32x1 1 0#1)
      (addi (fun i => lit0 (S32x1.rowMajor i)) (broadcastInDim S32x1 ![] bcast_S_S32x1 (constantI S_ 32 32#32)))
      (fun i => lit0 (S32x1.rowMajor i))))

/-- The two spins of each pair, by the table of pairs. -/
def pairSpins (s : FVec Ideal S16384x32 .f32) : FVec Ideal S16384x496x2 .f32 :=
  Host.gather gather_S16384x32_S496x2x1_S16384x496x2_0_1_n_n_1_2_163841 s
    (broadcastInDim S496x2x1 ![0, 1] bcast_S496x2_S496x2x1_0_1 (select (constantI S496x2 1 0#1)
      (addi (fun i => lit1 (S496x2.rowMajor i)) (broadcastInDim S496x2 ![] bcast_S_S496x2 (constantI S_ 32 32#32)))
      (fun i => lit1 (S496x2.rowMajor i))))

/-- The three spins of each triple, by the table of triples. -/
def tripleSpins (s : FVec Ideal S16384x32 .f32) : FVec Ideal S16384x4960x3 .f32 :=
  Host.gather gather_S16384x32_S4960x3x1_S16384x4960x3_0_1_n_n_1_2_163841 s
    (broadcastInDim S4960x3x1 ![0, 1] bcast_S4960x3_S4960x3x1_0_1 (select (constantI S4960x3 1 0#1)
      (addi (fun i => lit2 (S4960x3.rowMajor i)) (broadcastInDim S4960x3 ![] bcast_S_S4960x3 (constantI S_ 32 32#32)))
      (fun i => lit2 (S4960x3.rowMajor i))))

/-- The products of the spins of each bit, pair and triple. -/
def products (s : FVec Ideal S16384x32 .f32) : FVec Ideal S16384x5488 .f32 :=
  concatenate S16384x5488 1
    [⟨S16384x32, shapeCast S16384x32 (singleSpins s) shapeCasts_S16384x32x1_S16384x32⟩,
     ⟨S16384x496, mulf
        (shapeCast S16384x496 (extractStridedSlice S16384x496x1 ![0, 0, 0] (pairSpins s) slices_S16384x496x2_S16384x496x1_0_0_0)
          shapeCasts_S16384x496x1_S16384x496)
        (shapeCast S16384x496 (extractStridedSlice S16384x496x1 ![0, 0, 1] (pairSpins s) slices_S16384x496x2_S16384x496x1_0_0_1)
          shapeCasts_S16384x496x1_S16384x496)⟩,
     ⟨S16384x4960, mulf (mulf
        (shapeCast S16384x4960 (extractStridedSlice S16384x4960x1 ![0, 0, 0] (tripleSpins s) slices_S16384x4960x3_S16384x4960x1_0_0_0)
          shapeCasts_S16384x4960x1_S16384x4960)
        (shapeCast S16384x4960 (extractStridedSlice S16384x4960x1 ![0, 0, 1] (tripleSpins s) slices_S16384x4960x3_S16384x4960x1_0_0_1)
          shapeCasts_S16384x4960x1_S16384x4960))
        (shapeCast S16384x4960 (extractStridedSlice S16384x4960x1 ![0, 0, 2] (tripleSpins s) slices_S16384x4960x3_S16384x4960x1_0_0_2)
          shapeCasts_S16384x4960x1_S16384x4960)⟩]
    concatenates_S16384x32_S16384x496_S16384x4960_S16384x5488_d1

/-- The sums of the products times the weights, as a column. -/
def energies (x : IVec S16384x32 32) (w : FVec Ideal S5488 .f32) : FVec Ideal S16384x1 .f32 :=
  broadcastInDim S16384x1 ![0] bcast_S16384_S16384x1_0
    (Host.dotGeneral dot_S16384x5488_S5488_S16384_1_0_0_n_n_n none (products (spins x)) w)

/-- The reference's result is those sums of its arguments. -/
theorem reference_energies (m : (ℓ : Loc nD τ sig) → Buf (Elt Ideal) ℓ) (c : Dev nD) :
    Value.res_main_v36 m c = energies (m ((c.tc : Thread nD τ).loc main_arg0)) (m ((c.tc : Thread nD τ).loc main_arg1)) := rfl

/-- The first bit of a pair. -/
def bitA (p : Fin 496) : Fin 32 := ⟨pairA p.val, (pair_lt p.val p.isLt).1⟩

/-- The second bit of a pair. -/
def bitB (p : Fin 496) : Fin 32 := ⟨pairB p.val, (pair_lt p.val p.isLt).2⟩

/-- The row of a triple: its first bit. -/
def rowOf (t : Fin 4960) : Fin 32 := ⟨row t.val, (triple_place t.val t.isLt).1⟩

/-- The column of a triple: the pair of its other bits. -/
def colOf (t : Fin 4960) : Fin 496 := ⟨col t.val, (triple_place t.val t.isLt).2.1⟩

/-- The spin of a bit is the real spin of its word. -/
theorem spins_read (x : IVec S16384x32 32) (b : Fin 16384) (j : Fin 32) : spins x (ix2 b j) = (spin (x (ix2 b j)) : EReal) := by
  unfold spins
  pointwise
  rfl

/-- A word that stands for a small number, read signed. -/
theorem word_toInt (v : BitVec 32) (k : Fin 32) (h : v.toNat = k.val) : v.toInt = (k.val : Int) := by
  rw [← h]
  exact BitVec.toInt_eq_toNat_of_lt (by omega)

/-- The table of single bits names bit `q` at place `q`. -/
theorem single_read (s : FVec Ideal S16384x32 .f32) (b : Fin 16384) (q : Fin 32) : singleSpins s (ix3 b q 0) = s (ix2 b q) := by
  unfold singleSpins
  refine column_read gather_S16384x32_S32x1x1_S16384x32x1_0_1_n_n_1_2_163841_wf s _ b q 0 q (word_toInt _ q ?_)
  have e : S32x1.rowMajor (ix2 q 0) = (q : Fin 32) := Fin.ext ((Shape.rowMajor_val_two _).trans (by show q.val * 1 + 0 = q.val; omega))
  show (lit0 (S32x1.rowMajor (ix2 q 0))).toNat = q.val
  rw [e]
  have hq : q.val < 32 := q.isLt
  refine (congrArg BitVec.toNat (single_bit q)).trans ?_
  rw [BitVec.toNat_ofNat]
  exact Nat.mod_eq_of_lt (by omega)

/-- The table of pairs names the two bits of pair `p`. -/
theorem pair_read (s : FVec Ideal S16384x32 .f32) (b : Fin 16384) (p : Fin 496) (a : Fin 2) (k : Fin 32)
    (hk : (lit1t (p.val * 2 + a.val)).toNat = k.val) : pairSpins s (ix3 b p a) = s (ix2 b k) := by
  unfold pairSpins
  refine column_read gather_S16384x32_S496x2x1_S16384x496x2_0_1_n_n_1_2_163841_wf s _ b p a k (word_toInt _ k ?_)
  have e : S496x2.rowMajor (ix2 p a) = (⟨p.val * 2 + a.val, by omega⟩ : Fin 992) := Fin.ext (Shape.rowMajor_val_two _)
  show (lit1 (S496x2.rowMajor (ix2 p a))).toNat = k.val
  rw [e]
  exact hk

/-- The table of triples names the three bits of triple `t`. -/
theorem triple_spin_read (s : FVec Ideal S16384x32 .f32) (b : Fin 16384) (t : Fin 4960) (a : Fin 3) (k : Fin 32)
    (hk : triple t.val a.val = k.val) : tripleSpins s (ix3 b t a) = s (ix2 b k) := by
  unfold tripleSpins
  refine column_read gather_S16384x32_S4960x3x1_S16384x4960x3_0_1_n_n_1_2_163841_wf s _ b t a k (word_toInt _ k ?_)
  have e : S4960x3.rowMajor (ix2 t a) = (⟨t.val * 3 + a.val, by omega⟩ : Fin 14880) := Fin.ext (Shape.rowMajor_val_two _)
  show (lit2 (S4960x3.rowMajor (ix2 t a))).toNat = k.val
  rw [e]
  exact hk

/-- The product for a single bit is its spin. -/
theorem product_single (s : FVec Ideal S16384x32 .f32) (b : Fin 16384) (q : Fin 32) :
    products s (ix2 b ⟨q.val, by omega⟩) = s (ix2 b q) := by
  rw [← single_read s b q]
  unfold products
  pointwise

/-- The product for a pair is of its two spins. -/
theorem product_pair (s : FVec Ideal S16384x32 .f32) (b : Fin 16384) (p : Fin 496) :
    products s (ix2 b ⟨32 + p.val, by omega⟩) = s (ix2 b (bitA p)) * s (ix2 b (bitB p)) := by
  have h0 := pair_read s b p 0 (bitA p) rfl
  have h1 := pair_read s b p 1 (bitB p) rfl
  rw [← h0, ← h1]
  unfold products
  pointwise

/-- The product for a triple is of its three spins. -/
theorem product_triple (s : FVec Ideal S16384x32 .f32) (b : Fin 16384) (t : Fin 4960) :
    products s (ix2 b ⟨528 + t.val, by omega⟩) = s (ix2 b (rowOf t)) * s (ix2 b (bitA (colOf t))) * s (ix2 b (bitB (colOf t))) := by
  have h := triple_place t.val t.isLt
  have h0 := triple_spin_read s b t 0 (rowOf t) h.2.2.1
  have h1 := triple_spin_read s b t 1 (bitA (colOf t)) h.2.2.2.1
  have h2 := triple_spin_read s b t 2 (bitB (colOf t)) h.2.2.2.2
  have e : (⟨528 + t.val - 32 - 496, by omega⟩ : Fin 4960) = t := Fin.ext (by show 528 + t.val - 32 - 496 = t.val; omega)
  rw [← h0, ← h1, ← h2]
  unfold products
  pointwise
  rw [dif_neg (by omega), dif_neg (by omega), e]

/-- The reference's sum over one row of spins: the bits, the pairs and the triples, each product times its weight. -/
def termSum (s : Fin 32 → ℝ) (W : Fin 5488 → ℝ) : ℝ :=
  ∑ q : Fin 32, s q * W ⟨q.val, by omega⟩ + ∑ p : Fin 496, s (bitA p) * s (bitB p) * W ⟨32 + p.val, by omega⟩
    + ∑ t : Fin 4960, s (rowOf t) * s (bitA (colOf t)) * s (bitB (colOf t)) * W ⟨528 + t.val, by omega⟩

/-- The products of one row as reals, all 5488 of them. -/
def rowProducts (s : Fin 32 → ℝ) (n : Fin 5488) : ℝ :=
  if h : n.val < 32 then s ⟨n.val, h⟩
  else if h' : n.val < 528 then s (bitA ⟨n.val - 32, by omega⟩) * s (bitB ⟨n.val - 32, by omega⟩)
  else s (rowOf ⟨n.val - 528, by omega⟩) * s (bitA (colOf ⟨n.val - 528, by omega⟩)) * s (bitB (colOf ⟨n.val - 528, by omega⟩))

/-- The reference's products are those reals. -/
theorem products_read (x : IVec S16384x32 32) (b : Fin 16384) (n : Fin 5488) :
    products (spins x) (ix2 b n) = (rowProducts (fun j => spin (x (ix2 b j))) n : EReal) := by
  unfold rowProducts
  by_cases h : n.val < 32
  · rw [dif_pos h]
    exact (product_single (spins x) b ⟨n.val, h⟩).trans (spins_read x b _)
  · rw [dif_neg h]
    by_cases h' : n.val < 528
    · have e : n = (⟨32 + (n.val - 32), by omega⟩ : Fin 5488) := Fin.ext (by show n.val = 32 + (n.val - 32); omega)
      rw [dif_pos h', EReal.coe_mul, ← spins_read, ← spins_read, ← product_pair]
      exact congrArg (fun k => products (spins x) (ix2 b k)) e
    · have e : n = (⟨528 + (n.val - 528), by omega⟩ : Fin 5488) := Fin.ext (by show n.val = 528 + (n.val - 528); omega)
      rw [dif_neg h', EReal.coe_mul, EReal.coe_mul, ← spins_read, ← spins_read, ← spins_read, ← product_triple]
      exact congrArg (fun k => products (spins x) (ix2 b k)) e

/-- The sum of the products times the weights is the sum over bits, pairs and triples. -/
theorem sum_rowProducts (s : Fin 32 → ℝ) (W : Fin 5488 → ℝ) : ∑ n, rowProducts s n * W n = termSum s W := by
  rw [sum_weights]
  unfold termSum
  refine congrArg₂ (· + ·) (congrArg₂ (· + ·) (Finset.sum_congr rfl fun q _ => ?_) (Finset.sum_congr rfl fun p _ => ?_))
    (Finset.sum_congr rfl fun t _ => ?_)
  · exact congrArg (· * _) (dif_pos q.isLt)
  · have e : (⟨32 + p.val - 32, by omega⟩ : Fin 496) = p := Fin.ext (by show 32 + p.val - 32 = p.val; omega)
    refine congrArg (· * _) ?_
    unfold rowProducts
    rw [dif_neg (by show ¬ 32 + p.val < 32; omega), dif_pos (by show 32 + p.val < 528; omega)]
    simp only [e]
  · have e : (⟨528 + t.val - 528, by omega⟩ : Fin 4960) = t := Fin.ext (by show 528 + t.val - 528 = t.val; omega)
    refine congrArg (· * _) ?_
    unfold rowProducts
    rw [dif_neg (by show ¬ 528 + t.val < 32; omega), dif_neg (by show ¬ 528 + t.val < 528; omega)]
    simp only [e]

/-- Row `b` of the reference's result, over real weights. -/
theorem energies_read (x : IVec S16384x32 32) (w : FVec Ideal S5488 .f32) (W : Fin 5488 → ℝ) (hw : ∀ n, w (ix1 n) = (W n : EReal))
    (b : Fin 16384) : energies x w (ix2 b 0) = (termSum (fun j => spin (x (ix2 b j))) W : EReal) := by
  have sum : energies x w (ix2 b 0) = ∑ n : Fin 5488, products (spins x) (ix2 b n) * w (ix1 n) := by
    unfold energies
    pointwise
  rw [sum, ← sum_rowProducts, coe_sum]
  refine Finset.sum_congr rfl fun n _ => ?_
  rw [products_read, hw, EReal.coe_mul]

end Cert.Energy
-- ==== Proof.Equality.lean ====
module

public import proofs.«01_k».proof.Defs
public import proofs.«01_k».proof.Proof.Gen.Pre_bits_and_finite
public import proofs.«01_k».proof.Proof.KernelValue
public import proofs.«01_k».proof.Proof.ReferenceValue
public import proofs.«01_k».proof.Proof.Sums
public import Idealize.ShloMosaic.Lib.ReduceAll
public import Idealize.ShloMosaic.Lib.Affine

@[expose] public section

/-!
# The two results are equal

The kernel's sum over 640 columns is the reference's sum over single bits, pairs and triples when every spin squares to one.
The precondition gives that, and that every weight is real.
-/

noncomputable section

namespace Cert.Energy

open Idealize.ShloMosaic

/-- The spin of a word 0 or 1 squares to one. -/
theorem spin_square (x : BitVec 32) (h : x = 0#32 ∨ x = 1#32) : spin x * spin x = 1 := by
  rcases h with h | h
  · have e : (1#32 - 2#32 * x).toInt = 1 := by rw [h]; decide
    unfold spin; rw [e]; norm_num
  · have e : (1#32 - 2#32 * x).toInt = -1 := by rw [h]; decide
    unfold spin; rw [e]; norm_num

/-- The first choice of a pair's column is the pair's first bit. -/
theorem choiceA_pair (j : Fin 32) (p : Fin 496) : choiceA j ⟨p.val, by omega⟩ = if bitA p = j then 1 else 0 := by
  unfold choiceA
  refine if_congr ?_ rfl rfl
  rw [if_pos (show p.val < 496 from p.isLt)]
  exact (Fin.ext_iff (a := bitA p) (b := j)).symm

/-- The second choice of a pair's column is the pair's second bit. -/
theorem choiceB_pair (j : Fin 32) (p : Fin 496) : choiceB j ⟨p.val, by omega⟩ = if bitB p = j then 1 else 0 := by
  unfold choiceB
  refine if_congr ?_ rfl rfl
  rw [if_pos (show p.val < 496 from p.isLt)]
  exact (Fin.ext_iff (a := bitB p) (b := j)).symm

/-- The first choice of a single bit's column is that bit. -/
theorem choiceA_single (j q : Fin 32) : choiceA j ⟨496 + q.val, by omega⟩ = if q = j then 1 else 0 := by
  unfold choiceA
  refine if_congr ?_ rfl rfl
  rw [if_neg (show ¬ 496 + q.val < 496 by omega), Fin.ext_iff]
  show 496 + q.val = 496 + j.val ↔ _
  omega

/-- The second choice of a single bit's column is that bit. -/
theorem choiceB_single (j q : Fin 32) : choiceB j ⟨496 + q.val, by omega⟩ = if q = j then 1 else 0 := by
  unfold choiceB
  refine if_congr ?_ rfl rfl
  rw [if_neg (show ¬ 496 + q.val < 496 by omega), Fin.ext_iff]
  show 496 + q.val = 496 + j.val ↔ _
  omega

/-- The columns past the single bits choose nothing. -/
theorem choiceA_rest (j : Fin 32) (u : Fin 112) : choiceA j ⟨528 + u.val, by omega⟩ = 0 := by
  unfold choiceA
  refine if_neg ?_
  rw [if_neg (show ¬ 528 + u.val < 496 by omega)]
  show ¬ 528 + u.val = 496 + j.val
  omega

/-- The weights in a pair's column are those of the triples placed there. -/
theorem weightAt_pair (W : Fin 5488 → ℝ) (i : Fin 32) (p : Fin 496) :
    weightAt W i ⟨p.val, by omega⟩ = ∑ t : Fin 4960, if rowOf t = i ∧ colOf t = p then W ⟨528 + t.val, by omega⟩ else 0 := by
  unfold weightAt
  rw [if_neg (show ¬ p.val = 496 + i.val by omega)]
  refine Finset.sum_congr rfl fun t _ => if_congr ?_ rfl rfl
  exact and_congr (Fin.ext_iff (a := rowOf t) (b := i)).symm (Fin.ext_iff (a := colOf t) (b := p)).symm

/-- The weights in a single bit's column are that bit's weight, in that bit's row. -/
theorem weightAt_single (W : Fin 5488 → ℝ) (i q : Fin 32) :
    weightAt W i ⟨496 + q.val, by omega⟩ = if q = i then W ⟨q.val, by omega⟩ else 0 := by
  unfold weightAt
  by_cases h : q = i
  · rw [if_pos h, if_pos (show 496 + q.val = 496 + i.val by rw [h]), h]
  · have n : q.val ≠ i.val := fun e => h (Fin.ext e)
    rw [if_neg h, if_neg (show ¬ 496 + q.val = 496 + i.val by omega)]
    refine Finset.sum_eq_zero fun t _ => if_neg fun e => ?_
    have c := (triple_place t.val t.isLt).2.1
    have d : col t.val = 496 + q.val := e.2
    omega

/-- The kernel's sum over the columns is the reference's sum over single bits, pairs and triples. -/
theorem rowSum_eq (s : Fin 32 → ℝ) (hs : ∀ i, s i * s i = 1) (W : Fin 5488 → ℝ) : rowSum s W = termSum s W :=
  energy s hs (fun q => W ⟨q.val, by omega⟩) (fun p => W ⟨32 + p.val, by omega⟩) (fun t => W ⟨528 + t.val, by omega⟩)
    rowOf colOf bitA bitB choiceA choiceB (weightAt W) (offsetAt W)
    choiceA_pair choiceA_single choiceA_rest choiceB_pair choiceB_single (weightAt_pair W) (weightAt_single W)
    (fun p => dif_pos (show p.val < 496 from p.isLt)) (fun q => dif_neg (show ¬ 496 + q.val < 496 by omega))

/-- A value whose magnitude is below the word for infinity is real. -/
theorem real_of_below (y : EReal) (h : Ideal.cmp .olt (max y (-y)) (Ideal.ofBits .f32 0x7F800000#32) = 1#1) :
    y = (y.toReal : EReal) := by
  have top : Ideal.ofBits .f32 0x7F800000#32 = ⊤ := by simp [Ideal.ofBits, Ideal.ieee]
  rw [top] at h
  have lt : max y (-y) < ⊤ := by
    by_contra n
    simp [Ideal.cmp, n] at h
  refine (EReal.coe_toReal (fun e => ?_) (fun e => ?_)).symm
  · rw [e] at lt; simp at lt
  · rw [e] at lt; simp at lt

/-- The precondition says that every word is 0 or 1 and every weight is real. -/
theorem precondition (x : IVec Cert.KernelIdeal.S16384x32 32) (w : FVec Ideal Cert.KernelIdeal.S5488 .f32)
    (h : Cert.Pre_bits_and_finite.fn (F := Ideal) x w = fun _ => 1#1) :
    (∀ i, x i = 0#32 ∨ x i = 1#32) ∧ ∀ n, w n = ((w n).toReal : EReal) := by
  have j : Cert.Pre_bits_and_finite.S_.Idx := fun a => a.elim0
  haveI : Subsingleton Cert.Pre_bits_and_finite.S_.Idx := ⟨fun a b => funext fun d => d.elim0⟩
  have e := congrFun h j
  dsimp only [Cert.Pre_bits_and_finite.fn] at e
  obtain ⟨e0, e1⟩ := IntOp.andi_eq_one.1 e
  refine ⟨fun i => ?_, fun n => ?_⟩
  · have r := Host.reduce_andi_all _ _ _ _ j e0 i
    rcases IntOp.ori_eq_one.1 r with r | r
    · exact Or.inl (IntOp.cmpi_eq.1 r)
    · exact Or.inr (IntOp.cmpi_eq.1 r)
  · exact real_of_below (w n) (Host.reduce_andi_all _ _ _ _ j e1 n)

/-- Under the precondition the reference's result is the kernel's. -/
theorem results_equal (x : IVec Cert.KernelIdeal.S16384x32 32) (w : FVec Ideal Cert.KernelIdeal.S5488 .f32)
    (h : Cert.Pre_bits_and_finite.fn (F := Ideal) x w = fun _ => 1#1) :
    energies x w = kernelResult x (fun n => (w (ix1 n)).toReal) := by
  obtain ⟨hx, hw⟩ := precondition x w h
  funext i
  obtain ⟨b, rfl⟩ : ∃ b : Fin 16384, i = ix2 b 0 := by
    refine ⟨i 0, funext fun d => ?_⟩
    match d with
    | ⟨0, _⟩ => rfl
    | ⟨1, _⟩ => exact Fin.ext (by have := (i ⟨1, by decide⟩).isLt; exact Nat.lt_one_iff.1 this)
  refine (energies_read x w (fun n => (w (ix1 n)).toReal) (fun n => hw (ix1 n)) b).trans ?_
  show _ = ((rowSum (fun j => spin (x (ix2 b j))) (fun n => (w (ix1 n)).toReal) : ℝ) : EReal)
  rw [rowSum_eq _ (fun j => spin_square _ (hx (ix2 b j)))]

end Cert.Energy

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_bits_and_finite
public import Idealize.ShloMosaic.Adequacy
public import proofs.«01_k».proof.Proof.Gen.KernelIdeal.Value
public import proofs.«01_k».proof.Proof.Gen.ReferenceIdeal.Run
public import Idealize.ShloMosaic.Init
public import Idealize.ShloMosaic.Lib.Quiescent
public import proofs.«01_k».proof.Proof.Equality

@[expose] public section

noncomputable section

namespace Cert.Proof

open Idealize.ShloMosaic Idealize.SL.Sem Cert.Kernel

/-- The reference ends with every counter at zero and its arguments as they were. -/
theorem reference_frame : Cert.quiescent_ReferenceIdeal (hReferenceIdeal := Cert.ReferenceIdeal.Gen.facts) := fun m ρ _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- Over the reals the kernel's result array is the reference's, for words 0 and 1 and real weights. -/
theorem same_result : Cert.algebraic_KernelIdeal_ReferenceIdeal_pre_bits_and_finite
    (hKernelIdeal := Cert.KernelIdeal.Gen.facts) (hReferenceIdeal := Cert.ReferenceIdeal.Gen.facts)
    (hPre_bits_and_finite := Cert.Pre_bits_and_finite.Gen.facts) := by
  intro m ρ m' ρ' hpre hagree
  refine ⟨fun c => Cert.Energy.kernelResult (m ((c.tc : Thread Cert.KernelIdeal.nD Cert.KernelIdeal.τ).loc Cert.KernelIdeal.main_arg0))
    (fun n => (m ((c.tc : Thread Cert.KernelIdeal.nD Cert.KernelIdeal.τ).loc Cert.KernelIdeal.main_arg1) (ix1 n)).toReal), ?_, ?_⟩
  · exact Cert.Energy.kernel_run m ρ _ fun c n => (Cert.Energy.precondition _ _ (hpre c)).2 (ix1 n)
  · refine (θ_run Cert.ReferenceIdeal.defs _ _).mono (fun _ h c => ⟨(h c).1.trans ?_, (h c).2⟩)
      (Cert.ReferenceIdeal.Value.run (F := Ideal) m' ρ')
    refine (Cert.Energy.reference_energies m' c).trans ?_
    rw [(hagree c).1, (hagree c).2]
    exact Cert.Energy.results_equal _ _ (hpre c)

/-- Every claim. -/
theorem claim : Cert.Claim := ⟨Cert.Kernel.Gen.facts, Cert.KernelIdeal.Gen.facts, Cert.ReferenceIdeal.Gen.facts, Cert.Pre_bits_and_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, same_result⟩

end Cert.Proof

end
